-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S4096x512 .bf16) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  main_v4
-- ==== Pre_ids_in_range_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S8192x512 .bf16) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  main_v4
-- ==== Kernel.lean ====
abbrev S512 : Shape := ⟨1, ![512]⟩
abbrev S4096x512 : Shape := ⟨2, ![4096, 512]⟩
abbrev S512x512 : Shape := ⟨2, ![512, 512]⟩
abbrev S8x32x512 : Shape := ⟨3, ![8, 32, 512]⟩
abbrev S8 : Shape := ⟨1, ![8]⟩
abbrev S_ : Shape := ⟨0, ![]⟩
abbrev S256 : Shape := ⟨1, ![256]⟩
abbrev S256x1 : Shape := ⟨2, ![256, 1]⟩
abbrev S256x4096 : Shape := ⟨2, ![256, 4096]⟩
abbrev S256x512 : Shape := ⟨2, ![256, 512]⟩
abbrev S32x512 : Shape := ⟨2, ![32, 512]⟩
abbrev S1x32x512 : Shape := ⟨3, ![1, 32, 512]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S512, .i32⟩
  | .hbm, ⟨1, _⟩ => ⟨S4096x512, .bf16⟩
  | .hbm, ⟨2, _⟩ => ⟨S512x512, .bf16⟩
  | .local _ .vmem, ⟨0, _⟩ => ⟨S512, .i32⟩
  | .local _ .vmem, ⟨1, _⟩ => ⟨S4096x512, .bf16⟩
  | .local _ .vmem, ⟨2, _⟩ => ⟨S512x512, .bf16⟩
  | .local _ .vmem, ⟨3, _⟩ => ⟨S8x32x512, .bf16⟩
  | .local _ .vmem, ⟨4, _⟩ => ⟨S8x32x512, .bf16⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v18 : BitVec 32 := Scalar.muli v7 c1_i32_12
  let v19 : BitVec 32 := Scalar.addi v17 v18
  v19.toNat
def k0_off1 (d0 : Dev nD) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v20 : Index := Scalar.indexCast v8
  ![v20.toNat]
def k0_dev3 (d0 : Dev nD) : Nat :=
  let c0_i32_23 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_22 : BitVec 32 := 2#32
  let v42 : BitVec 32 := Scalar.muli v6 c2_i32_22
  let v43 : BitVec 32 := Scalar.addi c0_i32_23 v42
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v44 : BitVec 32 := Scalar.muli v5 c1_i32_24
  let v45 : BitVec 32 := Scalar.addi v43 v44
  v45.toNat
def k0_dev4 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v58 : BitVec 32 := Scalar.muli v6 c2_i32_35
  let v59 : BitVec 32 := Scalar.addi c0_i32_36 v58
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v60 : BitVec 32 := Scalar.muli v5 c1_i32_37
  let v61 : BitVec 32 := Scalar.addi v59 v60
  v61.toNat
def k0_dev5 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v74 : BitVec 32 := Scalar.muli v6 c2_i32_48
  let v75 : BitVec 32 := Scalar.addi c0_i32_49 v74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v76 : BitVec 32 := Scalar.muli v5 c1_i32_50
  let v77 : BitVec 32 := Scalar.addi v75 v76
  v77.toNat
def k0_dev6 (d0 : Dev nD) : Nat :=
  let c0_i32_61 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_60 : BitVec 32 := 2#32
  let v90 : BitVec 32 := Scalar.muli v6 c2_i32_60
  let v91 : BitVec 32 := Scalar.addi c0_i32_61 v90
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v92 : BitVec 32 := Scalar.muli v5 c1_i32_62
  let v93 : BitVec 32 := Scalar.addi v91 v92
  v93.toNat
def k0_dev7 (d0 : Dev nD) : Nat :=
  let c0_i32_73 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_72 : BitVec 32 := 2#32
  let v106 : BitVec 32 := Scalar.muli v6 c2_i32_72
  let v107 : BitVec 32 := Scalar.addi c0_i32_73 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_74 : BitVec 32 := 1#32
  let v108 : BitVec 32 := Scalar.muli v5 c1_i32_74
  let v109 : BitVec 32 := Scalar.addi v107 v108
  v109.toNat
def k0_dev8 (d0 : Dev nD) : Nat :=
  let c0_i32_85 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_84 : BitVec 32 := 2#32
  let v122 : BitVec 32 := Scalar.muli v6 c2_i32_84
  let v123 : BitVec 32 := Scalar.addi c0_i32_85 v122
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v124 : BitVec 32 := Scalar.muli v5 c1_i32_86
  let v125 : BitVec 32 := Scalar.addi v123 v124
  v125.toNat
def k0_dev9 (d0 : Dev nD) : Nat :=
  let c0_i32_97 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_96 : BitVec 32 := 2#32
  let v138 : BitVec 32 := Scalar.muli v6 c2_i32_96
  let v139 : BitVec 32 := Scalar.addi c0_i32_97 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_98 : BitVec 32 := 1#32
  let v140 : BitVec 32 := Scalar.muli v5 c1_i32_98
  let v141 : BitVec 32 := Scalar.addi v139 v140
  v141.toNat
def k0_dev10 (d0 : Dev nD) : Nat :=
  let c0_i32_109 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_108 : BitVec 32 := 2#32
  let v154 : BitVec 32 := Scalar.muli v6 c2_i32_108
  let v155 : BitVec 32 := Scalar.addi c0_i32_109 v154
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_110 : BitVec 32 := 1#32
  let v156 : BitVec 32 := Scalar.muli v5 c1_i32_110
  let v157 : BitVec 32 := Scalar.addi v155 v156
  v157.toNat
def k0_off2 (d0 : Dev nD) (c0_i32_132 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v181 : BitVec 32 := Scalar.addi v8 c0_i32_132
  let v182 : Index := Scalar.indexCast v181
  let c0_133 : Index := 0#32
  ![v182.toNat, 0]
def k0_off3 (d0 : Dev nD) (c0_i32_135 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v185 : BitVec 32 := Scalar.addi v8 c0_i32_135
  let c0_i32_141 : BitVec 32 := 0#32
  ![v185.toNat, 0]
def k0_dev11 (d0 : Dev nD) : Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_138 : BitVec 32 := 2#32
  let v186 : BitVec 32 := Scalar.muli v2 c2_i32_138
  let v187 : BitVec 32 := Scalar.addi c0_i32_139 v186
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_140 : BitVec 32 := 1#32
  let v188 : BitVec 32 := Scalar.muli v7 c1_i32_140
  let v189 : BitVec 32 := Scalar.addi v187 v188
  v189.toNat
def k0_dev12 (d0 : Dev nD) : Nat :=
  let c0_i32_166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_165 : BitVec 32 := 2#32
  let v216 : BitVec 32 := Scalar.muli v2 c2_i32_165
  let v217 : BitVec 32 := Scalar.addi c0_i32_166 v216
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_167 : BitVec 32 := 1#32
  let v218 : BitVec 32 := Scalar.muli v7 c1_i32_167
  let v219 : BitVec 32 := Scalar.addi v217 v218
  v219.toNat
def k0_dev13 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v246 : BitVec 32 := Scalar.muli v2 c2_i32_192
  let v247 : BitVec 32 := Scalar.addi c0_i32_193 v246
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_194 : BitVec 32 := 1#32
  let v248 : BitVec 32 := Scalar.muli v7 c1_i32_194
  let v249 : BitVec 32 := Scalar.addi v247 v248
  v249.toNat
def k0_dev14 (d0 : Dev nD) : Nat :=
  let c0_i32_220 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_219 : BitVec 32 := 2#32
  let v276 : BitVec 32 := Scalar.muli v2 c2_i32_219
  let v277 : BitVec 32 := Scalar.addi c0_i32_220 v276
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_221 : BitVec 32 := 1#32
  let v278 : BitVec 32 := Scalar.muli v7 c1_i32_221
  let v279 : BitVec 32 := Scalar.addi v277 v278
  v279.toNat
def k0_dev15 (d0 : Dev nD) : Nat :=
  let c0_i32_247 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_246 : BitVec 32 := 2#32
  let v306 : BitVec 32 := Scalar.muli v2 c2_i32_246
  let v307 : BitVec 32 := Scalar.addi c0_i32_247 v306
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_248 : BitVec 32 := 1#32
  let v308 : BitVec 32 := Scalar.muli v7 c1_i32_248
  let v309 : BitVec 32 := Scalar.addi v307 v308
  v309.toNat
def k0_dev16 (d0 : Dev nD) : Nat :=
  let c0_i32_274 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_273 : BitVec 32 := 2#32
  let v336 : BitVec 32 := Scalar.muli v2 c2_i32_273
  let v337 : BitVec 32 := Scalar.addi c0_i32_274 v336
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_275 : BitVec 32 := 1#32
  let v338 : BitVec 32 := Scalar.muli v7 c1_i32_275
  let v339 : BitVec 32 := Scalar.addi v337 v338
  v339.toNat
def k0_dev17 (d0 : Dev nD) : Nat :=
  let c0_i32_301 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_300 : BitVec 32 := 2#32
  let v366 : BitVec 32 := Scalar.muli v2 c2_i32_300
  let v367 : BitVec 32 := Scalar.addi c0_i32_301 v366
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_302 : BitVec 32 := 1#32
  let v368 : BitVec 32 := Scalar.muli v7 c1_i32_302
  let v369 : BitVec 32 := Scalar.addi v367 v368
  v369.toNat
def k0_dev18 (d0 : Dev nD) : Nat :=
  let c0_i32_328 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_327 : BitVec 32 := 2#32
  let v396 : BitVec 32 := Scalar.muli v2 c2_i32_327
  let v397 : BitVec 32 := Scalar.addi c0_i32_328 v396
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_329 : BitVec 32 := 1#32
  let v398 : BitVec 32 := Scalar.muli v7 c1_i32_329
  let v399 : BitVec 32 := Scalar.addi v397 v398
  v399.toNat
def k0_off4 (d0 : Dev nD) (c0_i32_333 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c256_i32_5 : BitVec 32 := 256#32
  let v10 : BitVec 32 := Scalar.muli v9 c256_i32_5
  let v407 : BitVec 32 := Scalar.addi v10 c0_i32_333
  let c0_i32_339 : BitVec 32 := 0#32
  ![v407.toNat, 0]
abbrev stage0_0 : Fin 1 → Memref sig .tc .vmem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 13
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .bf16⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .bf16⟩
  | .hbm, ⟨11, _⟩ => ⟨S512x512, .f32⟩
  | .hbm, ⟨12, _⟩ => ⟨S512x512, .bf16⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.IdealProto.lean ====
/-
# The exchange between the four devices: who waits for what, and what each landing hands over

The devices form a 2×2 mesh: device `c` has mesh row `c / 2` and mesh column `c % 2`. `xp c` is the device of the same
column in the other row, `yp c` the device of the same row in the other column. Device `c` looks up its 256 indices in
its half of the table (`rowsOf c`), trades these rows with `xp c` in eight blocks of 32 rows, adds the two, and trades
the sums with `yp c`, again in eight blocks.

* The barrier cell of `c` waits for two: one signal by `xp c`, which hands over the buffer at `xp c` that `c`'s first
  exchange lands in; one signal by `yp c`, which hands over the half of `yp c`'s result that `c`'s second exchange
  lands in.
* Semaphore family 0 (first exchange, sending side): half a share of block `k` of `c`'s own send buffer comes back.
* Family 1 (first exchange, receiving side): block `k` of `c`'s receive buffer, holding `xp c`'s rows.
* Family 2 (second exchange, sending side): block `k` of `c`'s own half of the result comes back, holding the sums.
* Family 3 (second exchange, receiving side): block `k` of the other half of `c`'s result, holding `yp c`'s sums.

Every cell has one round. The levels are barrier 1, family 1 at 2, family 3 at 3, everything else 0.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The mesh -/

set_option backward.proofsInPublic true in
/-- The device of the same mesh column in the other mesh row. -/
def xp (c : Dev nD) : Dev nD := ⟨(c.val + 2) % 4, Nat.mod_lt _ (by decide)⟩
set_option backward.proofsInPublic true in
/-- The device of the same mesh row in the other mesh column. -/
def yp (c : Dev nD) : Dev nD := ⟨2 * (c.val / 2) + (1 - c.val % 2), by have := c.isLt; simp only [nD] at *; omega⟩
set_option backward.proofsInPublic true in
/-- The device of `c`'s mesh row in mesh column `y % 2`: the one that computes half `y` of `c`'s result. -/
def own (c : Dev nD) (y : ℕ) : Dev nD := ⟨2 * (c.val / 2) + y % 2, by have := c.isLt; simp only [nD] at *; omega⟩

theorem xp_xp (c : Dev nD) : xp (xp c) = c := by revert c; decide
theorem yp_yp (c : Dev nD) : yp (yp c) = c := by revert c; decide
theorem xp_col (c : Dev nD) : (xp c).val % 2 = c.val % 2 := by revert c; decide
theorem yp_col (c : Dev nD) : (yp c).val % 2 = 1 - c.val % 2 := by revert c; decide
theorem own_self (c : Dev nD) : own c (c.val % 2) = c := by revert c; decide
theorem own_yp (c : Dev nD) (y : ℕ) : own (yp c) y = own c y := by
  apply Fin.ext; show 2 * ((2 * (c.val / 2) + (1 - c.val % 2)) / 2) + y % 2 = 2 * (c.val / 2) + y % 2; omega

def xEquiv : Dev nD ≃ Dev nD := ⟨xp, xp, xp_xp, xp_xp⟩
def yEquiv : Dev nD ≃ Dev nD := ⟨yp, yp, yp_yp, yp_yp⟩

/-! ## The semaphore cells -/

abbrev barS : Sem sig := (SemArray.scalar (sig.barrier 0 rfl) : Sems sig S_).sem

set_option backward.proofsInPublic true in
/-- Semaphore `k` of family `j`. -/
def dsem (j : Fin 4) (k : Fin 8) : DmaSem sig := (⟨3 + 8 * j.val + k.val, by have := j.isLt; have := k.isLt; omega⟩ : Fin 35)

abbrev barC (c : Dev nD) : GSem nD τ sig := ((c : Thread nD τ), .reg barS)
abbrev dC (c : Dev nD) (j : Fin 4) (k : Fin 8) : GSem nD τ sig := ((c : Thread nD τ), .dma (dsem j k))

/-- The family a DMA semaphore belongs to (the pipeline's own first three count as family 0), and its block. -/
def fam (q : DmaSem sig) : ℕ := (q.val - 3) / 8
set_option backward.proofsInPublic true in
def blkOf (q : DmaSem sig) : Fin 8 := ⟨(q.val - 3) % 8, Nat.mod_lt _ (by decide)⟩

theorem fam_dsem (j : Fin 4) (k : Fin 8) : fam (dsem j k) = j.val := by
  show (3 + 8 * j.val + k.val - 3) / 8 = j.val
  have := k.isLt; omega
theorem blkOf_dsem (j : Fin 4) (k : Fin 8) : blkOf (dsem j k) = k := by
  apply Fin.ext; show (3 + 8 * j.val + k.val - 3) % 8 = k.val
  have := k.isLt; omega
theorem dsem_inj {j j' : Fin 4} {k k' : Fin 8} (h : dsem j k = dsem j' k') : j = j' ∧ k = k' :=
  ⟨Fin.ext (by rw [← fam_dsem j k, ← fam_dsem j' k', h]), by rw [← blkOf_dsem j k, ← blkOf_dsem j' k', h]⟩
theorem dsem_ge (j : Fin 4) (k : Fin 8) : 3 ≤ (dsem j k).val := by
  show 3 ≤ 3 + 8 * j.val + k.val; omega

theorem dC_inj {c c' : Dev nD} {j j' : Fin 4} {k k' : Fin 8} (h : dC c j k = dC c' j' k') : c = c' ∧ j = j' ∧ k = k' := by
  have h1 : c = c' := Fin.ext (congrArg (fun g : GSem nD τ sig => g.1.1.val) h)
  have h2 : (SemLoc.dma (dsem j k) : SemLoc sig) = .dma (dsem j' k') := congrArg Prod.snd h
  exact ⟨h1, dsem_inj (SemLoc.dma.inj h2)⟩
theorem barC_inj {c c' : Dev nD} (h : barC c = barC c') : c = c' := Fin.ext (congrArg (fun g : GSem nD τ sig => g.1.1.val) h)
theorem dC_ne_barC (c c' : Dev nD) (j : Fin 4) (k : Fin 8) : dC c j k ≠ barC c' := fun h => by cases congrArg Prod.snd h

/-! ## Parts of the buffers -/

/-- Block `k` of a send or receive buffer. -/
def slotSet (k : Fin 8) : Finset S8x32x512.Idx := Finset.univ.filter fun i => (i 0).val = k.val
/-- The 32 rows of the result from row `r` on. -/
def rowSet (r : ℕ) : Finset S512x512.Idx := Finset.univ.filter fun i => r ≤ (i 0).val ∧ (i 0).val < r + 32
/-- Half `y` of the result's rows. -/
def halfSet (y : ℕ) : Finset S512x512.Idx := Finset.univ.filter fun i => 256 * y ≤ (i 0).val ∧ (i 0).val < 256 * y + 256

theorem mem_slotSet {k : Fin 8} {i : S8x32x512.Idx} : i ∈ slotSet k ↔ (i 0).val = k.val := by simp [slotSet]
theorem mem_rowSet {r : ℕ} {i : S512x512.Idx} : i ∈ rowSet r ↔ r ≤ (i 0).val ∧ (i 0).val < r + 32 := by simp [rowSet]
theorem mem_halfSet {y : ℕ} {i : S512x512.Idx} : i ∈ halfSet y ↔ 256 * y ≤ (i 0).val ∧ (i 0).val < 256 * y + 256 := by simp [halfSet]

theorem slots_disjoint (k k' : Fin 8) (h : k ≠ k') : Disjoint (slotSet k) (slotSet k') :=
  Finset.disjoint_left.mpr fun i hi hi' => h (Fin.ext ((mem_slotSet.mp hi).symm.trans (mem_slotSet.mp hi')))
theorem slots_cover : (Finset.univ : Finset (Fin 8)).biUnion slotSet = Finset.univ := by
  ext i
  simp only [Finset.mem_biUnion, Finset.mem_univ, true_and, iff_true]
  exact ⟨i 0, mem_slotSet.mpr rfl⟩
theorem rows_disjoint (b : ℕ) (k k' : Fin 8) (h : k ≠ k') : Disjoint (rowSet (b + 32 * k.val)) (rowSet (b + 32 * k'.val)) :=
  Finset.disjoint_left.mpr fun i hi hi' => h (Fin.ext (by have := mem_rowSet.mp hi; have := mem_rowSet.mp hi'; omega))
theorem rows_cover (y : ℕ) : (Finset.univ : Finset (Fin 8)).biUnion (fun k => rowSet (256 * y + 32 * k.val)) = halfSet y := by
  ext i
  simp only [Finset.mem_biUnion, Finset.mem_univ, true_and, mem_rowSet, mem_halfSet]
  constructor
  · rintro ⟨k, hk⟩; have := k.isLt; omega
  · intro h; exact ⟨⟨((i 0).val - 256 * y) / 32, by omega⟩, by simp only; omega⟩
theorem halves_disjoint (y : ℕ) : Disjoint (halfSet y) (halfSet (1 - y)) :=
  Finset.disjoint_left.mpr fun i hi hi' => by have := mem_halfSet.mp hi; have := mem_halfSet.mp hi'; omega
theorem halves_cover (y : ℕ) (hy : y < 2) : halfSet y ∪ halfSet (1 - y) = Finset.univ := by
  ext i
  simp only [Finset.mem_union, Finset.mem_univ, mem_halfSet, iff_true]
  have : (i 0).val < 512 := (i 0).isLt
  omega

theorem inb_slot (k : Fin 8) : ∀ a, (![k.val, 0, 0] : Fin 3 → Nat) a + S1x32x512.size a ≤ S8x32x512.size a := by revert k; decide
theorem inb_sem (k : Fin 8) : ∀ a, (![k.val] : Fin 1 → Nat) a + S1.size a ≤ S8.size a := by revert k; decide

theorem slot_rect_set (k : Fin 8) (inb) : (Rect.unit (s := S8x32x512) ![k.val, 0, 0] S1x32x512.size inb).set = slotSet k := by
  ext i
  have hi1 : (i 1).val < 32 := (i 1).isLt
  have hi2 : (i 2).val < 512 := (i 2).isLt
  rw [Rect.mem_set_unit, mem_slotSet]
  constructor
  · intro h; have h0 := h 0; simp [S1x32x512] at h0; omega
  · intro h a; fin_cases a <;> simp [S1x32x512] <;> omega
theorem row_rect_set (r : ℕ) (inb) : (Rect.unit (s := S512x512) ![r, 0] S32x512.size inb).set = rowSet r := by
  ext i
  have hi1 : (i 1).val < 512 := (i 1).isLt
  rw [Rect.mem_set_unit, mem_rowSet]
  constructor
  · intro h; have h0 := h 0; simp [S32x512] at h0; omega
  · intro h a; fin_cases a <;> simp [S32x512] <;> omega

end Cert.KernelIdealRun

end
-- ==== Proof.IdealSched.lean ====
/-
# The schedule of the exchange: contents, payloads, what each device owes, and the levels
-/
module

public import proofs.«01_k».proof.Proof.IdealProto

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The indices as staged on device `c`. -/
def idsAt (c : Dev nD) : (cc0_stg0_0 : Ref sig .tc).ty.Contents (Elt F) :=
  (win0_0.blk (0 : Fin 1)).view.read (Elt F) ((s₀ m ρ).mem ((c : Thread nD τ).loc main_arg0))
/-- The table shard as staged on device `c`. -/
def tabAt (c : Dev nD) : (cc0_stg1_0 : Ref sig .tc).ty.Contents (Elt F) :=
  (win0_1.blk (0 : Fin 1)).view.read (Elt F) ((s₀ m ρ).mem ((c : Thread nD τ).loc main_arg1))

abbrev idsM : Memref sig .tc .vmem S512 .i32 := Memref.whole cc0_stg0_0
abbrev tabM : Memref sig .tc .vmem S4096x512 .bf16 := Memref.whole cc0_stg1_0
abbrev outM : Memref sig .tc .vmem S512x512 .bf16 := Memref.whole cc0_stg2_0
abbrev sndM : Memref sig .tc .vmem S8x32x512 .bf16 := Memref.whole cc0_scratch0
abbrev rcvM : Memref sig .tc .vmem S8x32x512 .bf16 := Memref.whole cc0_scratch1

/-- The 256 indices device `c` looks up, as its body loads them. -/
def idsPart (c : Dev nD) : Vec F S256 .i32 :=
  (idsM : Memref sig .tc .vmem S512 .i32).view.readAt (Elt F) (Rect.unit (s := S512) (k0_off1 c) S256.size (k0_off1_inb c)).toLoadRect (idsAt m ρ c)

/-- The rows device `c` finds in its own half of the table, one for each of its 256 indices. -/
def rowsOf (c : Dev nD) : FVec F S256x512 .bf16 :=
  k0_pay3 (k0_pay1 c (idsPart m ρ c)) (k0_pay2 (tabAt m ρ c)) (constant S256x512 .f32 0x00000000#32)

/-- Row `r % 256`, column `j` of a device's 256 rows. -/
def rIx (r : ℕ) (j : Fin 512) : S256x512.Idx := fun a => match a with
  | ⟨0, _⟩ => (⟨r % 256, Nat.mod_lt _ (by decide)⟩ : Fin 256)
  | ⟨1, _⟩ => j
  | ⟨_ + 2, h⟩ => absurd h (Nat.not_lt.2 (Nat.le_add_left _ _))

/-- The send buffer's contents: block `k` holds rows `32 k … 32 k + 31`. -/
def sndOf (c : Dev nD) : S8x32x512.Idx → Elt F .bf16 := fun i => rowsOf m ρ c (rIx (32 * (i 0).val + (i 1).val) (i 2))

/-- The result on device `c`: in each row, the rows of the two devices of the mesh column that computes it, added. -/
def outOf (c : Dev nD) : S512x512.Idx → Elt F .bf16 :=
  addf (s := S512x512) (φ := .bf16) (fun i => rowsOf m ρ (own c ((i 0).val / 256)) (rIx (i 0).val (i 1)))
    (fun i => rowsOf m ρ (xp (own c ((i 0).val / 256))) (rIx (i 0).val (i 1)))

theorem outOf_yp (c : Dev nD) : outOf m ρ (yp c) = outOf m ρ c := by
  unfold outOf; simp only [own_yp]

/-! ## Parts of buffers as resources -/

def sndPts (c : Dev nD) (k : Fin 8) (q : PosShare TreeShare) (f : Buf (Elt F) ((c : Thread nD τ).loc cc0_scratch0)) : sProp 𝕄 :=
  ((c : Thread nD τ).loc cc0_scratch0) ↦[slotSet k]{q} f
def rcvPts (c : Dev nD) (k : Fin 8) (f : Buf (Elt F) ((c : Thread nD τ).loc cc0_scratch1)) : sProp 𝕄 :=
  ((c : Thread nD τ).loc cc0_scratch1) ↦[slotSet k]{fullShare} f
def rowPts (c : Dev nD) (r : ℕ) (f : Buf (Elt F) ((c : Thread nD τ).loc cc0_stg2_0)) : sProp 𝕄 :=
  ((c : Thread nD τ).loc cc0_stg2_0) ↦[rowSet r]{fullShare} f
def halfPts (c : Dev nD) (y : ℕ) (f : Buf (Elt F) ((c : Thread nD τ).loc cc0_stg2_0)) : sProp 𝕄 :=
  ((c : Thread nD τ).loc cc0_stg2_0) ↦[halfSet y]{fullShare} f

omit [FloatOps F] in
instance sndPts_storable (c : Dev nD) (k q f) : BI.Storable (upEmb : UEmb _ 𝕄) (sndPts (F := F) c k q f) := by unfold sndPts; infer_instance
omit [FloatOps F] in
instance rcvPts_storable (c : Dev nD) (k f) : BI.Storable (upEmb : UEmb _ 𝕄) (rcvPts (F := F) c k f) := by unfold rcvPts; infer_instance
omit [FloatOps F] in
instance rowPts_storable (c : Dev nD) (r f) : BI.Storable (upEmb : UEmb _ 𝕄) (rowPts (F := F) c r f) := by unfold rowPts; infer_instance
omit [FloatOps F] in
instance halfPts_storable (c : Dev nD) (y f) : BI.Storable (upEmb : UEmb _ 𝕄) (halfPts (F := F) c y f) := by unfold halfPts; infer_instance

/-- The first row of the half of the result that device `c` computes. -/
abbrev myRow (c : Dev nD) : ℕ := 256 * (c.val % 2)
/-- The first row of the half that `yp c` computes. -/
abbrev itsRow (c : Dev nD) : ℕ := 256 * (1 - c.val % 2)

theorem itsRow_yp (c : Dev nD) : itsRow (yp c) = myRow c := by revert c; decide

/-! ## The schedule -/

abbrev N : ℕ := ((rcvM.slice (Rect.unit (s := S8x32x512) ![0, 0, 0] S1x32x512.size inb_S8x32x512_S1x32x512_0_0_0) (fun _ => rfl)).squeeze S32x512 squeezes_S1x32x512_S32x512).view.dmaCredit
theorem N_pos : 0 < N := View.dmaCredit_pos _ (by decide)

/-- What a signal on `c`'s barrier cell hands over: `xp c`'s (duty `false`) the receive buffer of `xp c`, `yp c`'s
    (duty `true`) the rows of `yp c`'s result that `c` computes. -/
def barPay (c : Dev nD) (d : Bool) : sProp 𝕄 :=
  if d then iprop(∃ f, halfPts (yp c) (c.val % 2) f) else iprop(∃ f : Buf (Elt F) ((xp c : Thread nD τ).loc cc0_scratch1), ((xp c : Thread nD τ).loc cc0_scratch1) ↦{fullShare} f)

/-- What the landing on `c`'s semaphore `k` of family `j` hands over. -/
def xferPay (c : Dev nD) (j : ℕ) (k : Fin 8) : sProp 𝕄 :=
  if j = 0 then sndPts c k fullShare.left (sndOf m ρ c)
  else if j = 1 then rcvPts c k (sndOf m ρ (xp c))
  else if j = 2 then rowPts c (myRow c + 32 * k.val) (outOf m ρ c)
  else rowPts c (itsRow c + 32 * k.val) (outOf m ρ c)

abbrev IsBar (g : GSem nD τ sig) : Prop := g.1.2 = .tc ∧ g.2 = .reg barS
abbrev IsXfer (g : GSem nD τ sig) : Prop := g.1.2 = .tc ∧ ∃ j k, g.2 = .dma (dsem j k)

def locPay (c : Dev nD) (s : SemLoc sig) (d : Bool) : sProp 𝕄 := match s with
  | .dma q => xferPay m ρ c (fam q) (blkOf q)
  | .reg _ => barPay c d

/-- One round on every cell: two duties of one unit on a barrier cell, one duty of a block's credit on a DMA cell. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := locPay m ρ g.1.1 g.2 d
  amount_pos g _ _ _ := by
    by_cases h : g.2 = .reg barS
    · rw [if_pos h]; exact Nat.one_pos
    · rw [if_neg h]; exact N_pos

instance xferPay_storable (c : Dev nD) (j k) : BI.Storable (upEmb : UEmb _ 𝕄) (xferPay (F := F) m ρ c j k) := by
  unfold xferPay; (repeat' split) <;> infer_instance
omit [FloatOps F] in
instance barPay_storable (c : Dev nD) (d) : BI.Storable (upEmb : UEmb _ 𝕄) (barPay (F := F) c d) := by
  unfold barPay; split <;> infer_instance
instance sched_payload_storable (g : GSem nD τ sig) (r : ℕ) (d : Bool) :
    BI.Storable (upEmb : UEmb _ 𝕄) ((sched (F := F) m ρ).payload g r d) := by
  show BI.Storable upEmb (locPay m ρ g.1.1 g.2 d)
  unfold locPay; split <;> infer_instance

section Sched
variable (c : Dev nD) (j : Fin 4) (k : Fin 8)

theorem dma_ne_bar (q : DmaSem sig) : (SemLoc.dma q : SemLoc sig) ≠ .reg barS := fun h => by cases h

theorem duties_bar : (sched m ρ).duties (barC c) 0 = Finset.univ := by dsimp only [sched]; exact if_pos ⟨rfl, rfl, rfl⟩
theorem duties_xfer : (sched m ρ).duties (dC c j k) 0 = {false} := by
  dsimp only [sched]; rw [if_neg (fun h => dma_ne_bar _ h.2.2)]; exact if_pos ⟨rfl, rfl, j, k, rfl⟩
theorem duties_later (g : GSem nD τ sig) : ∀ r, 1 ≤ r → (sched m ρ).duties g r = ∅ :=
  fun r hr => by dsimp only [sched]; rw [if_neg fun h => by omega, if_neg fun h => by omega]

theorem amount_bar (d : Bool) : (sched m ρ).amount (barC c) 0 d = 1 := by dsimp only [sched]; exact if_pos rfl
theorem amount_xfer (d : Bool) : (sched m ρ).amount (dC c j k) 0 d = N := by dsimp only [sched]; exact if_neg (dma_ne_bar _)

theorem expect_bar : (sched m ρ).expect (barC c) 0 = 2 := by
  unfold Schedule.expect Schedule.amountOf
  rw [duties_bar, Finset.sum_congr rfl fun d _ => amount_bar m ρ c d, Finset.sum_const, Finset.card_univ, Fintype.card_bool, smul_eq_mul]
theorem expect_xfer : (sched m ρ).expect (dC c j k) 0 = N := by
  unfold Schedule.expect Schedule.amountOf; rw [duties_xfer, Finset.sum_singleton, amount_xfer]

theorem payload_bar (d : Bool) : (sched m ρ).payload (barC c) 0 d = barPay c d := rfl
theorem payload_xfer (d : Bool) : (sched m ρ).payload (dC c j k) 0 d = xferPay m ρ c j.val k := by
  show xferPay m ρ c (fam (dsem j k)) (blkOf (dsem j k)) = _
  rw [fam_dsem, blkOf_dsem]

/-- Both duties of a barrier cell. -/
theorem rest_bar : bigSep ((sched m ρ).duties (barC c) 0 \ ∅) (fun d => (sched m ρ).payload (barC c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_xfer : bigSep ((sched m ρ).duties (dC c j k) 0 \ ∅) (fun d => (sched m ρ).payload (dC c j k) 0 d) = xferPay m ρ c j.val k := by
  rw [Finset.sdiff_empty, duties_xfer, bigSep_singleton, payload_xfer]

end Sched

/-! ## What each device owes at launch -/

/-- What is still owed to `yp c` once blocks below `j` of the second exchange are sent. -/
def owedY (c : Dev nD) (j : ℕ) : CellTallies nD τ sig Unit :=
  ∑ k ∈ (Finset.univ : Finset (Fin 8)).filter (fun k => j ≤ k.val), tallyAt (dC (yp c) 3 k) () N
/-- What is still owed, the whole second exchange included, once blocks below `j` of the first exchange are sent. -/
def owedX (c : Dev nD) (j : ℕ) : CellTallies nD τ sig Unit :=
  owedY c 0 + ∑ k ∈ (Finset.univ : Finset (Fin 8)).filter (fun k => j ≤ k.val), tallyAt (dC (xp c) 1 k) () N
/-- The same with the signal to `yp c` owed too. -/
def owed1 (c : Dev nD) : CellTallies nD τ sig Unit := owedX c 0 + tallyAt (barC (yp c)) () 1
/-- What device `c` owes at launch. -/
def O₀ (c : Dev nD) : CellTallies nD τ sig Unit := owed1 c + tallyAt (barC (xp c)) () 1

theorem from_succ (k : Fin 8) : (Finset.univ : Finset (Fin 8)).filter (fun i => k.val ≤ i.val)
    = insert k ((Finset.univ : Finset (Fin 8)).filter (fun i => k.val + 1 ≤ i.val)) := by revert k; decide
theorem not_mem_from (k : Fin 8) : k ∉ (Finset.univ : Finset (Fin 8)).filter (fun i => k.val + 1 ≤ i.val) := by revert k; decide

theorem owedY_step (c : Dev nD) (k : Fin 8) : owedY c k.val = owedY c (k.val + 1) + tallyAt (dC (yp c) 3 k) () N := by
  unfold owedY; rw [from_succ, Finset.sum_insert (not_mem_from k), add_comm]
theorem owedX_step (c : Dev nD) (k : Fin 8) : owedX c k.val = owedX c (k.val + 1) + tallyAt (dC (xp c) 1 k) () N := by
  unfold owedX; rw [from_succ, Finset.sum_insert (not_mem_from k), add_assoc, add_comm (tallyAt _ _ _)]
theorem owedY_end (c : Dev nD) : owedY c 8 = 0 := by
  unfold owedY; rw [show (Finset.univ : Finset (Fin 8)).filter (fun k => 8 ≤ k.val) = ∅ from by decide, Finset.sum_empty]
theorem owedX_end (c : Dev nD) : owedX c 8 = owedY c 0 := by
  unfold owedX; rw [show (Finset.univ : Finset (Fin 8)).filter (fun k => 8 ≤ k.val) = ∅ from by decide, Finset.sum_empty, add_zero]

theorem sum_tally_apply {S : Finset (Fin 8)} (f : Fin 8 → CellTallies nD τ sig Unit) (g : GSem nD τ sig) (u : Unit) :
    (∑ k ∈ S, f k) g u = ∑ k ∈ S, f k g u := by
  rw [Finset.sum_apply, Finsupp.finset_sum_apply]

theorem sum_tally_pos {S : Finset (Fin 8)} {d : Dev nD} {j : Fin 4} {g : GSem nD τ sig} {u : Unit}
    (h : 0 < (∑ k ∈ S, tallyAt (dC d j k) () N : CellTallies nD τ sig Unit) g u) : ∃ k, g = dC d j k := by
  rw [sum_tally_apply] at h
  by_contra hn
  rw [not_exists] at hn
  rw [Finset.sum_eq_zero (fun k _ => by rw [tallyAt_apply, if_neg fun h' => hn k h'.1])] at h
  exact Nat.lt_irrefl 0 h

theorem owedY_pos {c : Dev nD} {j : ℕ} {g : GSem nD τ sig} {u : Unit} (h : 0 < owedY c j g u) : ∃ k, g = dC (yp c) 3 k := sum_tally_pos h
theorem owedX_pos {c : Dev nD} {j : ℕ} {g : GSem nD τ sig} {u : Unit} (h : 0 < owedX c j g u) :
    (∃ k, g = dC (yp c) 3 k) ∨ ∃ k, g = dC (xp c) 1 k := by
  unfold owedX at h
  rw [Pi.add_apply, Finsupp.add_apply] at h
  rcases Nat.add_pos_iff_pos_or_pos.mp h with h | h
  · exact .inl (owedY_pos h)
  · exact .inr (sum_tally_pos h)
theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h
theorem O₀_pos {c : Dev nD} {g : GSem nD τ sig} {u : Unit} (h : 0 < O₀ c g u) :
    ((∃ k, g = dC (yp c) 3 k) ∨ ∃ k, g = dC (xp c) 1 k) ∨ ∃ d, g = barC d := by
  unfold O₀ owed1 at h
  rw [Pi.add_apply, Finsupp.add_apply, Pi.add_apply, Finsupp.add_apply] at h
  rcases Nat.add_pos_iff_pos_or_pos.mp h with h | h
  · rcases Nat.add_pos_iff_pos_or_pos.mp h with h | h
    · exact .inl (owedX_pos h)
    · exact .inr ⟨_, tally_pos h⟩
  · exact .inr ⟨_, tally_pos h⟩

/-! ## Levels -/

def L (g : GSem nD τ sig) : Finset Unit := if g.1.2 = .tc then {()} else ∅
def semLv (s : SemLoc sig) : ℕ := match s with
  | .reg _ => 1
  | .dma q => if fam q = 1 then 2 else if fam q = 3 then 3 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem L_mem (c : Dev nD) (sm : SemLoc sig) (u : Unit) : u ∈ L ((c : Thread nD τ), sm) := by
  rw [L_tc]; exact Finset.mem_singleton_self _

theorem semLv_x (k : Fin 8) : semLv (.dma (dsem 1 k)) = 2 := by unfold semLv; simp only [fam_dsem]; rfl
theorem semLv_y (k : Fin 8) : semLv (.dma (dsem 3 k)) = 3 := by unfold semLv; simp only [fam_dsem]; rfl

omit [FloatOps F] in
/-- A wait on a cell of level `n` is allowed when everything owed lies on cells of the devices' cores above level `n`. -/
theorem mayWait_of (c : Dev nD) (s : SemLoc sig) (n : ℕ) (hs : semLv s ≤ n) (O : CellTallies nD τ sig Unit)
    (hO : ∀ g u, 0 < O g u → ∃ d s', g = (((d : Dev nD) : Thread nD τ), s') ∧ n < semLv s') :
    (levAts L lv : sProp 𝕄) ⊢ MayWait (c : Thread nD τ) s () O :=
  MayOwe.of_cut (L := L) (lev := lv) n (fun p hp => by rw [Finset.mem_singleton.mp hp]; exact L_mem c s _)
    (fun g u hg => by obtain ⟨d, s', rfl, _⟩ := hO g u hg; exact L_mem _ _ _)
    (fun p hp => by rw [Finset.mem_singleton.mp hp]; exact hs)
    (fun g u hg => by obtain ⟨d, s', rfl, h⟩ := hO g u hg; exact h)

omit [FloatOps F] in
theorem mayWait_zero (c : Dev nD) (s : SemLoc sig) : (levAts L lv : sProp 𝕄) ⊢ MayWait (c : Thread nD τ) s () 0 := by
  rw [MayWait_zero]; iintro -; iempintro
omit [FloatOps F] in
/-- The pipeline's own waits happen owing everything or nothing. -/
theorem mayWait_stage (c : Dev nD) (q : DmaSem sig) (hq : semLv (.dma q) = 0) (O : CellTallies nD τ sig Unit) (hO : O = O₀ c ∨ O = 0) :
    (levAts L lv : sProp 𝕄) ⊢ MayWait (c : Thread nD τ) (.dma q) () O := by
  rcases hO with rfl | rfl
  · refine mayWait_of c _ 0 (le_of_eq hq) _ fun g u hg => ?_
    rcases O₀_pos hg with (⟨k, rfl⟩ | ⟨k, rfl⟩) | ⟨d, rfl⟩
    · exact ⟨_, _, rfl, by rw [semLv_y]; decide⟩
    · exact ⟨_, _, rfl, by rw [semLv_x]; decide⟩
    · exact ⟨_, _, rfl, Nat.one_pos⟩
  · exact mayWait_zero c _
omit [FloatOps F] in
/-- The barrier wait happens owing both exchanges. -/
theorem mayWait_bar (c : Dev nD) : (levAts L lv : sProp 𝕄) ⊢ MayWait (c : Thread nD τ) (.reg barS) () (owedX c 0) := by
  refine mayWait_of c _ 1 (le_refl 1) _ fun g u hg => ?_
  rcases owedX_pos hg with ⟨k, rfl⟩ | ⟨k, rfl⟩
  · exact ⟨_, _, rfl, by rw [semLv_y]; decide⟩
  · exact ⟨_, _, rfl, by rw [semLv_x]; decide⟩
omit [FloatOps F] in
/-- A wait for a block of the first exchange happens owing blocks of the second only. -/
theorem mayWait_x (c : Dev nD) (k : Fin 8) (j : ℕ) : (levAts L lv : sProp 𝕄) ⊢ MayWait (c : Thread nD τ) (.dma (dsem 1 k)) () (owedY c j) := by
  refine mayWait_of c _ 2 (le_of_eq (semLv_x k)) _ fun g u hg => ?_
  obtain ⟨k', rfl⟩ := owedY_pos hg
  exact ⟨_, _, rfl, by rw [semLv_y]; decide⟩

end Cert.KernelIdealRun

end
-- ==== Proof.IdealSteps.lean ====
/-
# One step of the exchange, for every block at once

Each theorem here is one stretch of a device's body for a block `k`: what it needs and what it leaves.
-/
module

public import proofs.«01_k».proof.Proof.IdealSched
public import Idealize.ShloMosaic.Lib.Pipeline.Value

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The views of the body -/

abbrev slotR (off : Fin 3 → ℕ) (inb : ∀ a, off a + S1x32x512.size a ≤ S8x32x512.size a) : Rect S8x32x512 := Rect.unit (s := S8x32x512) off S1x32x512.size inb
abbrev rowR (off : Fin 2 → ℕ) (inb : ∀ a, off a + S32x512.size a ≤ S512x512.size a) : Rect S512x512 := Rect.unit (s := S512x512) off S32x512.size inb
/-- A block of the send or receive buffer as the transfers address it. -/
abbrev slotV (M : Memref sig .tc .vmem S8x32x512 .bf16) (off : Fin 3 → ℕ) (inb : ∀ a, off a + S1x32x512.size a ≤ S8x32x512.size a) : Memref sig .tc .vmem S32x512 .bf16 :=
  (M.slice (slotR off inb) (fun _ => rfl)).squeeze S32x512 squeezes_S1x32x512_S32x512
/-- A block of rows of the result as the transfers address it. -/
abbrev rowV (off : Fin 2 → ℕ) (inb : ∀ a, off a + S32x512.size a ≤ S512x512.size a) : Memref sig .tc .vmem S32x512 .bf16 := outM.slice (rowR off inb) (fun _ => rfl)
abbrev semV (A : DmaSems sig S8) (off : Fin 1 → ℕ) (inb : ∀ a, off a + S1.size a ≤ S8.size a) : DmaSem sig :=
  ((A.slice (Rect.unit (s := S8) off S1.size inb)).squeeze S_ squeezes_S1_S_).sem

omit [FloatOps F] in
theorem slotV_set_snd (k : Fin 8) (inb) : (slotV sndM ![k.val, 0, 0] inb).view.set = slotSet k :=
  (View.set_reshape _ _).trans ((View.set_slice_whole _ _).trans (slot_rect_set k inb))
omit [FloatOps F] in
theorem slotV_set_rcv (k : Fin 8) (inb) : (slotV rcvM ![k.val, 0, 0] inb).view.set = slotSet k :=
  (View.set_reshape _ _).trans ((View.set_slice_whole _ _).trans (slot_rect_set k inb))
omit [FloatOps F] in
theorem rowV_set (r : ℕ) (inb) : (rowV ![r, 0] inb).view.set = rowSet r := (View.set_slice_whole _ _).trans (row_rect_set r inb)
omit [FloatOps F] in
theorem sndR_set (k : Fin 8) (inb) : (sndM.access (slotR ![k.val, 0, 0] inb)).set = slotSet k :=
  (View.set_slice_whole _ _).trans (slot_rect_set k inb)
omit [FloatOps F] in
theorem rcvR_set (k : Fin 8) (inb) : (rcvM.access (slotR ![k.val, 0, 0] inb)).set = slotSet k :=
  (View.set_slice_whole _ _).trans (slot_rect_set k inb)
omit [FloatOps F] in
theorem rowR_set (r : ℕ) (inb) : (outM.access (rowR ![r, 0] inb)).set = rowSet r :=
  (View.set_slice_whole _ _).trans (row_rect_set r inb)

theorem credit_snd (off : Fin 3 → ℕ) (inb) : (slotV sndM off inb).view.dmaCredit = N := rfl
theorem credit_rcv (off : Fin 3 → ℕ) (inb) : (slotV rcvM off inb).view.dmaCredit = N := rfl
theorem credit_row (off : Fin 2 → ℕ) (inb) : (rowV off inb).view.dmaCredit = N := rfl

/-- What reaches a block of the receive buffer from the same block of a send buffer is, on the block, what was sent. -/
theorem land_slot (k : Fin 8) (inb inb') (fd fs : S8x32x512.Idx → Elt F .bf16) (i : S8x32x512.Idx) (hi : i ∈ slotSet k) :
    (slotV rcvM ![k.val, 0, 0] inb).view.write (Elt F) fd ((slotV sndM ![k.val, 0, 0] inb').view.read (Elt F) fs) Finset.univ i = fs i := by
  have hi' : i ∈ (slotV rcvM ![k.val, 0, 0] inb).view.set := by rw [slotV_set_rcv]; exact hi
  obtain ⟨x, -, rfl⟩ := Finset.mem_map.mp hi'
  rw [View.write_emb_of_mem _ _ (Finset.mem_univ x)]
  rfl
/-- The same for a block of rows of the result. -/
theorem land_rows (r : ℕ) (inb inb') (fd fs : S512x512.Idx → Elt F .bf16) (i : S512x512.Idx) (hi : i ∈ rowSet r) :
    (rowV ![r, 0] inb).view.write (Elt F) fd ((rowV ![r, 0] inb').view.read (Elt F) fs) Finset.univ i = fs i := by
  have hi' : i ∈ (rowV ![r, 0] inb).view.set := by rw [rowV_set]; exact hi
  obtain ⟨x, -, rfl⟩ := Finset.mem_map.mp hi'
  rw [View.write_emb_of_mem _ _ (Finset.mem_univ x)]
  rfl

theorem rIx_val (r : ℕ) (j : Fin 512) : (rIx r j 0).val = r % 256 := rfl

/-- The block stored at position `k` of the send buffer makes it hold `rowsOf` there. -/
theorem put_slot (c : Dev nD) (k : Fin 8) (inb) (f : S8x32x512.Idx → Elt F .bf16) (w : S1x32x512.Idx → Elt F .bf16)
    (hw : ∀ j : S1x32x512.Idx, w j = rowsOf m ρ c (rIx (32 * k.val + (j 1).val) (j 2))) (i : S8x32x512.Idx) (hi : i ∈ slotSet k) :
    (sndM.access (slotR ![k.val, 0, 0] inb)).write (Elt F) f w Finset.univ i = sndOf m ρ c i := by
  have hi' : i ∈ (sndM.access (slotR ![k.val, 0, 0] inb)).set := by rw [sndR_set]; exact hi
  obtain ⟨x, -, rfl⟩ := Finset.mem_map.mp hi'
  rw [View.write_emb_of_mem _ _ (Finset.mem_univ x)]
  refine (hw x).trans ?_
  unfold sndOf
  have h0 : ((x : S1x32x512.Idx) 0).val = 0 := by have : ((x : S1x32x512.Idx) 0).val < 1 := (x 0).isLt; omega
  congr 2
  · show 32 * k.val + (x 1).val = 32 * (k.val + 1 * (x 0).val) + (0 + 1 * (x 1).val)
    have : (x 0).val = 0 := h0
    omega
  · apply Fin.ext; show (x 2).val = 0 + 1 * (x 2).val; omega

/-- A slice of 32 rows of the 256, cast to a block of the send buffer. -/
theorem slice_block (v : S256x512.Idx → Elt F .bf16) (o : ℕ) (k : Fin 8) (ho : o = 32 * k.val) (h : S256x512.Slices ![o, 0] S32x512) (hc : S32x512.ShapeCasts S1x32x512)
    (j : S1x32x512.Idx) : shapeCast S1x32x512 (extractStridedSlice S32x512 ![o, 0] v h) hc j = v (rIx (32 * k.val + (j 1).val) (j 2)) := by
  subst ho
  refine (shapeCast_addUnit_apply ![32, 512] _ hc j).trans ?_
  refine extractStridedSlice_apply _ v h _ _ fun a => ?_
  have hj : (j 1).val < 32 := (j 1).isLt
  have := k.isLt
  match a with
  | ⟨0, _⟩ => show (32 * k.val + (j 1).val) % 256 = 32 * k.val + (j 1).val; omega
  | ⟨1, _⟩ => show (j 2).val = 0 + (j 2).val; omega

theorem read_snd (c : Dev nD) (k : Fin 8) (inb) (j : S1x32x512.Idx) :
    sndM.view.readAt (Elt F) (slotR ![k.val, 0, 0] inb).toLoadRect (sndOf m ρ c) j = rowsOf m ρ c (rIx (32 * k.val + (j 1).val) (j 2)) := by
  show rowsOf m ρ c (rIx (32 * (k.val + 1 * (j 0).val) + (0 + 1 * (j 1).val)) ⟨0 + 1 * (j 2).val, _⟩) = _
  have h0 : (j 0).val = 0 := by have : (j 0).val < 1 := (j 0).isLt; omega
  congr 2
  · rw [h0]; omega
  · apply Fin.ext; show 0 + 1 * (j 2).val = (j 2).val; omega
theorem read_rcv (c : Dev nD) (k : Fin 8) (inb) (j : S1x32x512.Idx) :
    rcvM.view.readAt (Elt F) (slotR ![k.val, 0, 0] inb).toLoadRect (sndOf m ρ c) j = rowsOf m ρ c (rIx (32 * k.val + (j 1).val) (j 2)) :=
  read_snd m ρ c k inb j

/-- The sum the body stores for a block, from what it loads of the two buffers. -/
def sumPay (a b : S1x32x512.Idx → Elt F .bf16) : FVec F S32x512 .bf16 :=
  addf (shapeCast S32x512 (a : FVec F S1x32x512 .bf16) shapeCasts_S1x32x512_S32x512) (shapeCast S32x512 (b : FVec F S1x32x512 .bf16) shapeCasts_S1x32x512_S32x512)

/-- Storing the sum of the two blocks makes the result hold `outOf` on these rows. -/
theorem put_rows (c : Dev nD) (k : Fin 8) (r : ℕ) (hr0 : r = myRow c + 32 * k.val) (inb) (f : S512x512.Idx → Elt F .bf16) (w : S32x512.Idx → Elt F .bf16)
    (a b : S1x32x512.Idx → Elt F .bf16) (hw : w = sumPay a b)
    (ha : ∀ j : S1x32x512.Idx, a j = rowsOf m ρ c (rIx (32 * k.val + (j 1).val) (j 2)))
    (hb : ∀ j : S1x32x512.Idx, b j = rowsOf m ρ (xp c) (rIx (32 * k.val + (j 1).val) (j 2)))
    (i : S512x512.Idx) (hi : i ∈ rowSet r) :
    (outM.access (rowR ![r, 0] inb)).write (Elt F) f w Finset.univ i = outOf m ρ c i := by
  have hi' : i ∈ (outM.access (rowR ![r, 0] inb)).set := by rw [rowR_set]; exact hi
  obtain ⟨x, -, rfl⟩ := Finset.mem_map.mp hi'
  rw [View.write_emb_of_mem _ _ (Finset.mem_univ x)]
  have hx : (x 0).val < 32 := (x 0).isLt
  have hk := k.isLt
  have hA : ∀ z : S1x32x512.Idx → Elt F .bf16, shapeCast S32x512 (z : FVec F S1x32x512 .bf16) shapeCasts_S1x32x512_S32x512 x
      = z (Fin.cons ⟨0, Nat.one_pos⟩ x) := fun z => shapeCast_dropUnit_apply ![32, 512] z shapeCasts_S1x32x512_S32x512 x
  have hrow : ((outM.access (rowR ![r, 0] inb)).emb x 0).val = myRow c + 32 * k.val + (x 0).val := by
    show r + 1 * (x 0).val = _; omega
  have hcol : ((outM.access (rowR ![r, 0] inb)).emb x 1) = (x 1 : Fin 512) := by
    apply Fin.ext; show 0 + 1 * (x 1).val = (x 1).val; omega
  have hy : ((outM.access (rowR ![r, 0] inb)).emb x 0).val / 256 = c.val % 2 := by rw [hrow]; unfold myRow; omega
  have hr : ∀ j : Fin 512, rIx (32 * k.val + (x 0).val) j = rIx ((outM.access (rowR ![r, 0] inb)).emb x 0).val j := by
    intro j
    funext q
    match q with
    | ⟨0, _⟩ => apply Fin.ext; show (32 * k.val + (x 0).val) % 256 = _ % 256; rw [hrow]; unfold myRow; omega
    | ⟨1, _⟩ => rfl
  subst hw
  unfold outOf sumPay
  show addf (s := S32x512) (φ := .bf16) _ _ x = _
  have e1 : a (Fin.cons ⟨0, Nat.one_pos⟩ x) = rowsOf m ρ (own c (((outM.access (rowR ![r, 0] inb)).emb x 0).val / 256)) (rIx ((outM.access (rowR ![r, 0] inb)).emb x 0).val ((outM.access (rowR ![r, 0] inb)).emb x 1)) := by
    rw [ha, hy, own_self, hcol]; exact congrArg (rowsOf m ρ c) (hr (x 1))
  have e2 : b (Fin.cons ⟨0, Nat.one_pos⟩ x) = rowsOf m ρ (xp (own c (((outM.access (rowR ![r, 0] inb)).emb x 0).val / 256))) (rIx ((outM.access (rowR ![r, 0] inb)).emb x 0).val ((outM.access (rowR ![r, 0] inb)).emb x 1)) := by
    rw [hb, hy, own_self, hcol]; exact congrArg (rowsOf m ρ (xp c)) (hr (x 1))
  unfold addf
  simp only [hA]
  rw [e1, e2]

/-! ## The cells' records -/

abbrev Cell : Type := Option (Fin 4 × Fin 8)
def csem : Cell → SemLoc sig
  | none => .reg barS
  | some jk => .dma (dsem jk.1 jk.2)
abbrev kcell (ck : Dev nD × Cell) : GSem nD τ sig := ((ck.1 : Thread nD τ), csem ck.2)

/-- Every cell's invariant, that every cell has reached round 0, and the levels. -/
def recs (K : Dev nD × Cell → ℕ) : sProp 𝕄 :=
  iprop((bigSep Finset.univ fun ck : Dev nD × Cell => cellInv ER (sched m ρ) (K ck) (kcell ck))
    ∗ (bigSep Finset.univ fun ck : Dev nD × Cell => reached ER (kcell ck) 0) ∗ levAts L lv)

instance recs_persistent (K : Dev nD × Cell → ℕ) : BI.Persistent (recs m ρ K) := by unfold recs; infer_instance

variable (K : Dev nD × Cell → ℕ)

theorem inv_of_all (ck : Dev nD × Cell) :
    (bigSep Finset.univ fun ck : Dev nD × Cell => (cellInv ER (sched m ρ) (K ck) (kcell ck) : sProp 𝕄)) ⊢ cellInv ER (sched m ρ) (K ck) (kcell ck) :=
  bigSep_elim (Finset.mem_univ ck)
omit [FloatOps F] in
theorem reached_of_all (ck : Dev nD × Cell) :
    (bigSep Finset.univ fun ck : Dev nD × Cell => (reached ER (kcell ck) 0 : sProp 𝕄)) ⊢ reached ER (kcell ck) 0 :=
  bigSep_elim (Finset.mem_univ ck)
theorem recs_inv (ck : Dev nD × Cell) : recs m ρ K ⊢ cellInv ER (sched m ρ) (K ck) (kcell ck) := by
  unfold recs; iintro ⟨H, -, -⟩; iapply (inv_of_all m ρ K ck); iexact H
theorem recs_reached (ck : Dev nD × Cell) : recs m ρ K ⊢ reached ER (kcell ck) 0 := by
  unfold recs; iintro ⟨-, H, -⟩; iapply (reached_of_all (F := F) ck); iexact H
theorem recs_lev : recs m ρ K ⊢ levAts L lv := by unfold recs; iintro ⟨-, -, H⟩; iexact H

/-- Device `c` owes exactly `O`, whatever it has waited for. -/
def owesE (c : Dev nD) (O : CellTallies nD τ sig Unit) : sProp 𝕄 := iprop(∃ W, owes (c : Thread nD τ) O W)

/-! ## The steps -/

section Steps
variable (c : Dev nD) (k : Fin 8)

/-- Storing block `k` of the looked-up rows in the send buffer (the body also loads the block first, for nothing). -/
theorem step_put {off : Fin 3 → ℕ} (hoff : off = ![k.val, 0, 0]) {inb : ∀ a, off a + S1x32x512.size a ≤ S8x32x512.size a} {w : S1x32x512.Idx → Elt F .bf16}
    (hw : ∀ j : S1x32x512.Idx, w j = rowsOf m ρ c (rIx (32 * k.val + (j 1).val) (j 2)))
    {hl : sndM.view.LoadsAt (slotR off inb).toLoadRect} {hx : (sndM.access (slotR off inb)).Stores Finset.univ} {hm}
    {α : Type} {Q : α → sProp 𝕄} {cont : PUnit → Prog (TpuEff nD τ sig (Elt F) Λ₀ .tc) α} (f : Buf (Elt F) ((c : Thread nD τ).loc cc0_scratch0)) :
    sndPts c k fullShare f
      ⊢ iprop((sndPts c k fullShare (sndOf m ρ c) -∗ wp frame (wpE (defs₀ (F := F)) 𝒱₀ (c : Thread nD τ) none) Set.univ (cont ⟨⟩) Q)
        -∗ wp frame (wpE (defs₀ (F := F)) 𝒱₀ (c : Thread nD τ) none) Set.univ
          (.op (.load sndM (slotR off inb).toLoadRect hl) fun _ => .op (.store sndM (slotR off inb) w Finset.univ hx hm) cont) Q) := by
  subst hoff
  unfold sndPts
  iintro H Hk
  iapply (wp_load 𝒱₀ (c : Thread nD τ) none Set.univ (m := sndM) (show _ ⊆ slotSet k from by
    rw [← sndR_set k inb]; exact (View.set_slice _ _).ge)) $$ H
  iintro H
  iapply (wp_store 𝒱₀ (c : Thread nD τ) none Set.univ (m := sndM) (r := slotR ![k.val, 0, 0] inb) (Mk := Finset.univ) (S := slotSet k)
    (by rw [View.setOn_univ, sndR_set])) $$ H
  iintro H
  iapply Hk
  iapply (Entails.of_eq (pointsTo_congr (put_slot m ρ c k inb f w hw))); iexact H

/-- Sending block `k` of the first exchange to `xp c`. -/
theorem step_sendX {n : Dev nD} (hn : n = xp c) {sS sR : DmaSem sig} (hS : sS = dsem 0 k) (hR : sR = dsem 1 k)
    {off : Fin 3 → ℕ} (hoff : off = ![k.val, 0, 0]) {inb inb' : ∀ a, off a + S1x32x512.size a ≤ S8x32x512.size a}
    {hsc : (slotV rcvM off inb').view.ref.isScScratch = false} {hsrc : (slotV sndM off inb).view.WordExact} {hdst : (slotV rcvM off inb').view.WordExact}
    {hsem : DmaTarget.Typed .vmem (.dma sR) (.remote (Dev.tc n : Thread nD τ) (slotV rcvM off inb') (.dma sS) hsc)}
    {α : Type} {Q : α → sProp 𝕄} {cont : PUnit → Prog (TpuEff nD τ sig (Elt F) Λ₀ .tc) α} :
    iprop(recs m ρ K ∗ sndPts c k fullShare.left (sndOf m ρ c) ∗ (∃ fd, rcvPts (xp c) k fd) ∗ owesE c (owedX c k.val)
        ∗ dutyTok ER (dC c 0 k) 0 false ∗ dutyTok ER (dC (xp c) 1 k) 0 false)
      ⊢ iprop(((cred (tallyAt (dC c 0 k) () N) ∗ owesE c (owedX c (k.val + 1))) -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma (slotV sndM off inb) (.remote (Dev.tc n : Thread nD τ) (slotV rcvM off inb') (.dma sS) hsc) (.dma sR) hsrc hdst hsem) cont) Q) := by
  subst hn hS hR hoff
  unfold owesE
  iintro ⟨#HR, Hs, ⟨%fd, Hd⟩, ⟨%W, HO⟩, Ht0, Ht1⟩ Hk
  iapply (Rounds.wp_send_pointsTo 𝒱₀ ER (sched m ρ) (c : Thread nD τ) none (κ₁ := K (c, some (0, k))) (κ₂ := K (xp c, some (1, k)))
    (c' := (xp c : Thread nD τ)) (sp' := .vmem) (src := slotV sndM ![k.val, 0, 0] inb) (dst := slotV rcvM ![k.val, 0, 0] inb') (sS := .dma (dsem 0 k)) (sem := .dma (dsem 1 k)) (q := fullShare.left) (fs := sndOf m ρ c)
    (r₁ := 0) (r₂ := 0) (d₁ := false) (d₂ := false) (fd := fd)
    (by rw [duties_xfer]; exact Finset.mem_singleton_self _) (by rw [duties_xfer]; exact Finset.mem_singleton_self _)
    () () N rfl (amount_xfer m ρ c 0 k false) (amount_xfer m ρ (xp c) 1 k false) (owedX c (k.val + 1)) (owedX_step c k) (W := W)
    (by rw [payload_xfer, slotV_set_snd]; exact BI.Entails.refl _)
    (by rw [payload_xfer, slotV_set_rcv, pointsTo_congr (land_slot k inb' inb fd (sndOf m ρ c))]
        show _ ⊢ rcvPts (xp c) k (sndOf m ρ (xp (xp c)))
        rw [xp_xp]; exact BI.Entails.refl _)) $$ [Hs Hd HO Ht0 Ht1]
  · isplitr; · iapply (recs_inv m ρ K (c, some (0, k))); iexact HR
    isplitr; · iapply (recs_inv m ρ K (xp c, some (1, k))); iexact HR
    isplitl [Hs]; · rw [slotV_set_snd]; unfold sndPts; iexact Hs
    isplitl [Hd]; · rw [slotV_set_rcv]; unfold rcvPts; iexact Hd
    isplitl [HO]; · iexact HO
    isplitl [Ht0]; · iexact Ht0
    isplitr; · iapply (recs_reached m ρ K (c, some (0, k))); iexact HR
    isplitl [Ht1]; · iexact Ht1
    iapply (recs_reached m ρ K (xp c, some (1, k))); iexact HR
  iintro ⟨Hc, HO⟩
  iapply Hk
  isplitl [Hc]; · iexact Hc
  iexists W; iexact HO

/-- Sending block `k` of the second exchange to `yp c`. -/
theorem step_sendY {n : Dev nD} (hn : n = yp c) {sS sR : DmaSem sig} (hS : sS = dsem 2 k) (hR : sR = dsem 3 k)
    {off : Fin 2 → ℕ} (hoff : off = ![myRow c + 32 * k.val, 0]) {inb inb' : ∀ a, off a + S32x512.size a ≤ S512x512.size a}
    {hsc : (rowV off inb').view.ref.isScScratch = false} {hsrc : (rowV off inb).view.WordExact} {hdst : (rowV off inb').view.WordExact}
    {hsem : DmaTarget.Typed .vmem (.dma sR) (.remote (Dev.tc n : Thread nD τ) (rowV off inb') (.dma sS) hsc)}
    {α : Type} {Q : α → sProp 𝕄} {cont : PUnit → Prog (TpuEff nD τ sig (Elt F) Λ₀ .tc) α} :
    iprop(recs m ρ K ∗ rowPts c (myRow c + 32 * k.val) (outOf m ρ c) ∗ (∃ fd, rowPts (yp c) (myRow c + 32 * k.val) fd) ∗ owesE c (owedY c k.val)
        ∗ dutyTok ER (dC c 2 k) 0 false ∗ dutyTok ER (dC (yp c) 3 k) 0 false)
      ⊢ iprop(((cred (tallyAt (dC c 2 k) () N) ∗ owesE c (owedY c (k.val + 1))) -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma (rowV off inb) (.remote (Dev.tc n : Thread nD τ) (rowV off inb') (.dma sS) hsc) (.dma sR) hsrc hdst hsem) cont) Q) := by
  subst hn hS hR hoff
  unfold owesE
  iintro ⟨#HR, Hs, ⟨%fd, Hd⟩, ⟨%W, HO⟩, Ht0, Ht1⟩ Hk
  iapply (Rounds.wp_send_pointsTo 𝒱₀ ER (sched m ρ) (c : Thread nD τ) none (κ₁ := K (c, some (2, k))) (κ₂ := K (yp c, some (3, k)))
    (c' := (yp c : Thread nD τ)) (sp' := .vmem) (src := rowV ![myRow c + 32 * k.val, 0] inb) (dst := rowV ![myRow c + 32 * k.val, 0] inb') (sS := .dma (dsem 2 k)) (sem := .dma (dsem 3 k)) (q := fullShare) (fs := outOf m ρ c)
    (r₁ := 0) (r₂ := 0) (d₁ := false) (d₂ := false) (fd := fd)
    (by rw [duties_xfer]; exact Finset.mem_singleton_self _) (by rw [duties_xfer]; exact Finset.mem_singleton_self _)
    () () N rfl (amount_xfer m ρ c 2 k false) (amount_xfer m ρ (yp c) 3 k false) (owedY c (k.val + 1)) (owedY_step c k) (W := W)
    (by rw [payload_xfer, rowV_set]; exact BI.Entails.refl _)
    (by rw [payload_xfer, rowV_set, pointsTo_congr (land_rows _ inb' inb fd (outOf m ρ c))]
        show _ ⊢ rowPts (yp c) (itsRow (yp c) + 32 * k.val) (outOf m ρ (yp c))
        rw [outOf_yp, itsRow_yp]; exact BI.Entails.refl _)) $$ [Hs Hd HO Ht0 Ht1]
  · isplitr; · iapply (recs_inv m ρ K (c, some (2, k))); iexact HR
    isplitr; · iapply (recs_inv m ρ K (yp c, some (3, k))); iexact HR
    isplitl [Hs]; · rw [rowV_set]; unfold rowPts; iexact Hs
    isplitl [Hd]; · rw [rowV_set]; unfold rowPts; iexact Hd
    isplitl [HO]; · iexact HO
    isplitl [Ht0]; · iexact Ht0
    isplitr; · iapply (recs_reached m ρ K (c, some (2, k))); iexact HR
    isplitl [Ht1]; · iexact Ht1
    iapply (recs_reached m ρ K (yp c, some (3, k))); iexact HR
  iintro ⟨Hc, HO⟩
  iapply Hk
  isplitl [Hc]; · iexact Hc
  iexists W; iexact HO

/-- Waiting for block `k` of family `j`, after which the cell is closed: its landing is handed over and its counter is at zero. -/
theorem step_wait (j : Fin 4) {s : DmaSem sig} (hs : s = dsem j k) (O : CellTallies nD τ sig Unit)
    (hO : (levAts L lv : sProp 𝕄) ⊢ MayWait (c : Thread nD τ) (.dma (dsem j k)) () O)
    {sp sp' : Space} {S S' : Shape} {e e' : EltTy} {src : Memref sig .tc sp S e} {dst : Memref sig .tc sp' S' e'} {hsrc hdst} (hN : dst.view.dmaCredit = N)
    {α : Type} {Q : α → sProp 𝕄} {cont : PUnit → Prog (TpuEff nD τ sig (Elt F) Λ₀ .tc) α} :
    iprop(recs m ρ K ∗ cred (tallyAt (dC c j k) () N) ∗ owesE c O ∗ atPos ER (dC c j k) 0 ∅ 0)
      ⊢ iprop(((owesE c O ∗ semVal (dC c j k) 0 ∗ xferPay m ρ c j.val k) -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 s src dst hsrc hdst) cont) Q) := by
  subst hs
  unfold owesE
  iintro ⟨#HR, Hc, ⟨%W, HO⟩, Hat⟩ Hk
  iapply (Rounds.wp_wait_rest_token 𝒱₀ ER (sched m ρ) (c : Thread nD τ) none (κ := K (c, some (j, k))) (sm := .dma (dsem j k)) (k' := N)
      (fun Kt => (wpE_waitDma2_eq 𝒱₀ (c : Thread nD τ) none Set.univ Kt).trans (by rw [hN])) (Set.mem_univ _) () (O := O) (W := W) (R := 0) (m := 0) (T := ∅)
      (by rw [Nat.zero_add, expect_xfer])) $$ [Hc HO Hat]
  · isplitr; · iapply (recs_inv m ρ K (c, some (j, k))); iexact HR
    isplitl [Hc]; · iexact Hc
    isplitl [HO]; · iexact HO
    isplitr; · iapply hO; iapply (recs_lev m ρ K); iexact HR
    iexact Hat
  iintro ⟨HO, Hat, -, Hpay⟩
  ihave Hpay := (Entails.of_eq (rest_xfer m ρ c j k)) $$ Hpay
  imod (Rounds.cell_close ER (sched m ρ) (Set.mem_univ (K (c, some (j, k)))) (fun h => h) (R := 0 + 1) (duties_later m ρ (dC c j k))) $$ [Hat] with Hz
  · isplitr; · iapply (recs_inv m ρ K (c, some (j, k))); iexact HR
    iexact Hat
  iapply Hk
  isplitl [HO]; · iexists _; iexact HO
  isplitl [Hz]; · iexact Hz
  iexact Hpay

/-- Adding block `k` of the own and of the received rows into the result. -/
theorem step_sum {off : Fin 3 → ℕ} (hoff : off = ![k.val, 0, 0]) {off' : Fin 2 → ℕ} (hoff' : off' = ![myRow c + 32 * k.val, 0])
    {inb inb' : ∀ a, off a + S1x32x512.size a ≤ S8x32x512.size a} {inb2 : ∀ a, off' a + S32x512.size a ≤ S512x512.size a}
    {pay : (S1x32x512.Idx → Elt F .bf16) → (S1x32x512.Idx → Elt F .bf16) → (S32x512.Idx → Elt F .bf16)} (hpay : ∀ a b, pay a b = sumPay a b)
    {hl1 : sndM.view.LoadsAt (slotR off inb).toLoadRect} {hl2 : rcvM.view.LoadsAt (slotR off inb').toLoadRect} {hl3 : outM.view.LoadsAt (rowR off' inb2).toLoadRect}
    {hx : (outM.access (rowR off' inb2)).Stores Finset.univ} {hm}
    {α : Type} {Q : α → sProp 𝕄} {cont : PUnit → Prog (TpuEff nD τ sig (Elt F) Λ₀ .tc) α} (q : PosShare TreeShare) (f : Buf (Elt F) ((c : Thread nD τ).loc cc0_stg2_0)) :
    iprop(sndPts c k q (sndOf m ρ c) ∗ rcvPts c k (sndOf m ρ (xp c)) ∗ rowPts c (myRow c + 32 * k.val) f)
      ⊢ iprop(((sndPts c k q (sndOf m ρ c) ∗ rcvPts c k (sndOf m ρ (xp c)) ∗ rowPts c (myRow c + 32 * k.val) (outOf m ρ c))
            -∗ wp frame (wpE (defs₀ (F := F)) 𝒱₀ (c : Thread nD τ) none) Set.univ (cont ⟨⟩) Q)
        -∗ wp frame (wpE (defs₀ (F := F)) 𝒱₀ (c : Thread nD τ) none) Set.univ
          (.op (.load sndM (slotR off inb).toLoadRect hl1) fun a => .op (.load rcvM (slotR off inb').toLoadRect hl2) fun b =>
            .op (.load outM (rowR off' inb2).toLoadRect hl3) fun _ => .op (.store outM (rowR off' inb2) (pay a b) Finset.univ hx hm) cont) Q) := by
  subst hoff hoff'
  unfold sndPts rcvPts rowPts
  iintro ⟨H1, H2, H3⟩ Hk
  iapply (wp_load 𝒱₀ (c : Thread nD τ) none Set.univ (m := sndM) (show _ ⊆ slotSet k from by
    rw [← sndR_set k inb]; exact (View.set_slice _ _).ge)) $$ H1
  iintro H1
  iapply (wp_load 𝒱₀ (c : Thread nD τ) none Set.univ (m := rcvM) (show _ ⊆ slotSet k from by
    rw [← rcvR_set k inb']; exact (View.set_slice _ _).ge)) $$ H2
  iintro H2
  iapply (wp_load 𝒱₀ (c : Thread nD τ) none Set.univ (m := outM) (show _ ⊆ rowSet (myRow c + 32 * k.val) from by
    rw [← rowR_set _ inb2]; exact (View.set_slice _ _).ge)) $$ H3
  iintro H3
  iapply (wp_store 𝒱₀ (c : Thread nD τ) none Set.univ (m := outM) (r := rowR ![myRow c + 32 * k.val, 0] inb2) (Mk := Finset.univ) (S := rowSet (myRow c + 32 * k.val))
    (by rw [View.setOn_univ, rowR_set])) $$ H3
  iintro H3
  iapply Hk
  isplitl [H1]; · iexact H1
  isplitl [H2]; · iexact H2
  iapply (Entails.of_eq (pointsTo_congr (put_rows m ρ c k _ rfl inb2 f _ _ _ (hpay _ _) (read_snd m ρ c k inb) (read_rcv m ρ (xp c) k inb')))); iexact H3

end Steps

end Cert.KernelIdealRun

end
-- ==== Proof.IdealPhases.lean ====
/-
# The five phases of a device's body

A phase runs block 0, block 1, … block 7. Before block `n` the blocks below `n` are done and the others still to do
(`ph D T n`); each theorem `run_*` carries a phase from block `k` to block `k + 1`.
-/
module

public import proofs.«01_k».proof.Proof.IdealSteps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Phases -/

/-- Blocks below `n` in the state `D`, the others in the state `T`. -/
def ph (D T : Fin 8 → sProp 𝕄) (n : ℕ) : sProp 𝕄 := bigSep Finset.univ fun i => if i.val < n then D i else T i
/-- The same without block `k`. -/
def others (D T : Fin 8 → sProp 𝕄) (k : Fin 8) : sProp 𝕄 := bigSep (Finset.univ.erase k) fun i => if i.val < k.val then D i else T i

omit [FloatOps F] in
theorem ph_out (D T : Fin 8 → sProp 𝕄) (k : Fin 8) : ph D T k.val = iprop(T k ∗ others D T k) := by
  unfold ph others; rw [bigSep_univ_at _ k, if_neg (Nat.lt_irrefl _)]
omit [FloatOps F] in
theorem ph_in (D T : Fin 8 → sProp 𝕄) (k : Fin 8) : ph D T (k.val + 1) = iprop(D k ∗ others D T k) := by
  unfold ph others; rw [bigSep_univ_at _ k, if_pos (Nat.lt_succ_self _)]
  congr 1
  refine bigSep_congr fun i hi => ?_
  have hne : i.val ≠ k.val := fun h => Finset.ne_of_mem_erase hi (Fin.ext h)
  by_cases h : i.val < k.val
  · rw [if_pos h, if_pos (by omega)]
  · rw [if_neg h, if_neg (by omega)]
omit [FloatOps F] in
theorem ph_start (D T : Fin 8 → sProp 𝕄) : ph D T 0 = bigSep Finset.univ T := bigSep_congr fun i _ => if_neg (Nat.not_lt_zero _)
omit [FloatOps F] in
theorem ph_done (D T : Fin 8 → sProp 𝕄) : ph D T 8 = bigSep Finset.univ D := bigSep_congr fun i _ => if_pos i.isLt

section States
variable (c : Dev nD) (i : Fin 8)
/-- Before block `i` is put in the send buffer. -/
def TP : sProp 𝕄 := iprop(∃ f, sndPts c i fullShare f)
/-- Before and after block `i` is sent to `xp c`. -/
def TX : sProp 𝕄 := iprop((∃ fd, rcvPts (xp c) i fd) ∗ dutyTok ER (dC c 0 i) 0 false ∗ dutyTok ER (dC (xp c) 1 i) 0 false)
def DX : sProp 𝕄 := iprop(sndPts c i fullShare.right (sndOf m ρ c) ∗ cred (tallyAt (dC c 0 i) () N))
/-- Before and after block `i` from `xp c` is added and sent to `yp c`. -/
def TS : sProp 𝕄 := iprop(sndPts c i fullShare.right (sndOf m ρ c) ∗ cred (tallyAt (dC c 1 i) () N) ∗ atPos ER (dC c 1 i) 0 ∅ 0
  ∗ (∃ f, rowPts c (myRow c + 32 * i.val) f) ∗ (∃ fd, rowPts (yp c) (myRow c + 32 * i.val) fd)
  ∗ dutyTok ER (dC c 2 i) 0 false ∗ dutyTok ER (dC (yp c) 3 i) 0 false)
def DS : sProp 𝕄 := iprop(sndPts c i fullShare.right (sndOf m ρ c) ∗ rcvPts c i (sndOf m ρ (xp c)) ∗ semVal (dC c 1 i) 0 ∗ cred (tallyAt (dC c 2 i) () N))
/-- Before and after block `i` from `yp c` is waited for. -/
def TR : sProp 𝕄 := iprop(cred (tallyAt (dC c 3 i) () N) ∗ atPos ER (dC c 3 i) 0 ∅ 0)
def DR : sProp 𝕄 := iprop(semVal (dC c 3 i) 0 ∗ rowPts c (itsRow c + 32 * i.val) (outOf m ρ c))
/-- Before and after the two sends of block `i` are waited for. -/
def TE : sProp 𝕄 := iprop(cred (tallyAt (dC c 0 i) () N) ∗ atPos ER (dC c 0 i) 0 ∅ 0 ∗ cred (tallyAt (dC c 2 i) () N) ∗ atPos ER (dC c 2 i) 0 ∅ 0)
def DE : sProp 𝕄 := iprop(semVal (dC c 0 i) 0 ∗ semVal (dC c 2 i) 0 ∗ sndPts c i fullShare.left (sndOf m ρ c) ∗ rowPts c (myRow c + 32 * i.val) (outOf m ρ c))
end States

abbrev phP (c : Dev nD) (n : ℕ) : sProp 𝕄 := ph (fun _ => iprop(emp)) (TP c) n
abbrev phX (c : Dev nD) (n : ℕ) : sProp 𝕄 := ph (DX m ρ c) (TX c) n
abbrev phS (c : Dev nD) (n : ℕ) : sProp 𝕄 := ph (DS m ρ c) (TS m ρ c) n
abbrev phR (c : Dev nD) (n : ℕ) : sProp 𝕄 := ph (DR m ρ c) (TR c) n
abbrev phE (c : Dev nD) (n : ℕ) : sProp 𝕄 := ph (DE m ρ c) (TE c) n

/-! ## One block of each phase -/

section Runs
variable (K : Dev nD × Cell → ℕ) (c : Dev nD) (k : Fin 8)

/-- Putting block `k` in the send buffer. -/
theorem run_put (n n' : ℕ) (hn : n = k.val) (hn' : n' = k.val + 1) {off : Fin 3 → ℕ} (hoff : off = ![k.val, 0, 0]) {inb : ∀ a, off a + S1x32x512.size a ≤ S8x32x512.size a} {w : S1x32x512.Idx → Elt F .bf16}
    (hw : ∀ j : S1x32x512.Idx, w j = rowsOf m ρ c (rIx (32 * k.val + (j 1).val) (j 2)))
    {hl : sndM.view.LoadsAt (slotR off inb).toLoadRect} {hx : (sndM.access (slotR off inb)).Stores Finset.univ} {hm}
    {α : Type} {Q : α → sProp 𝕄} {cont : PUnit → Prog (TpuEff nD τ sig (Elt F) Λ₀ .tc) α} :
    phP c n
      ⊢ iprop(((phP c n' ∗ sndPts c k fullShare (sndOf m ρ c)) -∗ wp frame (wpE (defs₀ (F := F)) 𝒱₀ (c : Thread nD τ) none) Set.univ (cont ⟨⟩) Q)
        -∗ wp frame (wpE (defs₀ (F := F)) 𝒱₀ (c : Thread nD τ) none) Set.univ
          (.op (.load sndM (slotR off inb).toLoadRect hl) fun _ => .op (.store sndM (slotR off inb) w Finset.univ hx hm) cont) Q) := by
  subst hn hn'
  unfold phP
  rw [ph_out, ph_in]; unfold TP
  iintro ⟨⟨%f, H⟩, Hr⟩ Hk
  iapply (step_put m ρ c k hoff hw f) $$ H
  iintro H
  iapply Hk
  isplitl [Hr]
  · isplitr; · iempintro
    iexact Hr
  iexact H

/-- Sending block `k` to `xp c`: half of the block's share stays here. -/
theorem run_sendX (n n' : ℕ) (hn : n = k.val) (hn' : n' = k.val + 1) {d : Dev nD} (hd : d = xp c) {sS sR : DmaSem sig} (hS : sS = dsem 0 k) (hR : sR = dsem 1 k)
    {off : Fin 3 → ℕ} (hoff : off = ![k.val, 0, 0]) {inb inb' : ∀ a, off a + S1x32x512.size a ≤ S8x32x512.size a}
    {hsc : (slotV rcvM off inb').view.ref.isScScratch = false} {hsrc : (slotV sndM off inb).view.WordExact} {hdst : (slotV rcvM off inb').view.WordExact}
    {hsem : DmaTarget.Typed .vmem (.dma sR) (.remote (Dev.tc d : Thread nD τ) (slotV rcvM off inb') (.dma sS) hsc)}
    {α : Type} {Q : α → sProp 𝕄} {cont : PUnit → Prog (TpuEff nD τ sig (Elt F) Λ₀ .tc) α} :
    iprop(recs m ρ K ∗ phX m ρ c n ∗ sndPts c k fullShare (sndOf m ρ c) ∗ owesE c (owedX c n))
      ⊢ iprop(((phX m ρ c n' ∗ owesE c (owedX c n')) -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma (slotV sndM off inb) (.remote (Dev.tc d : Thread nD τ) (slotV rcvM off inb') (.dma sS) hsc) (.dma sR) hsrc hdst hsem) cont) Q) := by
  subst hn hn'
  unfold phX
  rw [ph_out, ph_in]; unfold TX DX
  iintro ⟨#HR, ⟨⟨Hd, Ht0, Ht1⟩, Hr⟩, H, HO⟩ Hk
  unfold sndPts
  ihave H2 := (pointsTo_share (PosShare.mem_left_op_right fullShare)).1 $$ H
  icases H2 with ⟨Hl, Hrt⟩
  iapply (step_sendX m ρ K c k hd hS hR hoff) $$ [Hl Hd HO Ht0 Ht1]
  · isplitr; · iexact HR
    isplitl [Hl]; · unfold sndPts; iexact Hl
    isplitl [Hd]; · iexact Hd
    isplitl [HO]; · iexact HO
    isplitl [Ht0] <;> iassumption
  iintro ⟨Hc, HO⟩
  iapply Hk
  isplitr [HO]
  · isplitr [Hr]
    · isplitl [Hrt] <;> iassumption
    · iexact Hr
  iexact HO

/-- Block `k` of the second exchange: `xp c`'s block is waited for, added to the own one, and the sum sent to `yp c`. -/
theorem run_sum (n n' : ℕ) (hn : n = k.val) (hn' : n' = k.val + 1) {s1 : DmaSem sig} (h1 : s1 = dsem 1 k) {off : Fin 3 → ℕ} (hoff : off = ![k.val, 0, 0])
    {inbw inbw' inb inb' : ∀ a, off a + S1x32x512.size a ≤ S8x32x512.size a} {hsrcw hdstw}
    {off' : Fin 2 → ℕ} (hoff' : off' = ![myRow c + 32 * k.val, 0]) {inb2 : ∀ a, off' a + S32x512.size a ≤ S512x512.size a}
    {pay : (S1x32x512.Idx → Elt F .bf16) → (S1x32x512.Idx → Elt F .bf16) → (S32x512.Idx → Elt F .bf16)} (hpay : ∀ a b, pay a b = sumPay a b)
    {hl1 : sndM.view.LoadsAt (slotR off inb).toLoadRect} {hl2 : rcvM.view.LoadsAt (slotR off inb').toLoadRect} {hl3 : outM.view.LoadsAt (rowR off' inb2).toLoadRect}
    {hx : (outM.access (rowR off' inb2)).Stores Finset.univ} {hm}
    {d : Dev nD} (hd : d = yp c) {sS sR : DmaSem sig} (hS : sS = dsem 2 k) (hR : sR = dsem 3 k)
    {off3 : Fin 2 → ℕ} (hoff3 : off3 = ![myRow c + 32 * k.val, 0]) {inb3 inb3' : ∀ a, off3 a + S32x512.size a ≤ S512x512.size a}
    {hsc : (rowV off3 inb3').view.ref.isScScratch = false} {hsrc : (rowV off3 inb3).view.WordExact} {hdst : (rowV off3 inb3').view.WordExact}
    {hsem : DmaTarget.Typed .vmem (.dma sR) (.remote (Dev.tc d : Thread nD τ) (rowV off3 inb3') (.dma sS) hsc)}
    {α : Type} {Q : α → sProp 𝕄} {cont : PUnit → Prog (TpuEff nD τ sig (Elt F) Λ₀ .tc) α} :
    iprop(recs m ρ K ∗ phS m ρ c n ∗ owesE c (owedY c n))
      ⊢ iprop(((phS m ρ c n' ∗ owesE c (owedY c n')) -∗ wp frame (wpE (defs₀ (F := F)) 𝒱₀ (c : Thread nD τ) none) Set.univ (cont ⟨⟩) Q)
        -∗ wp frame (wpE (defs₀ (F := F)) 𝒱₀ (c : Thread nD τ) none) Set.univ
          (.op (.waitDma2 s1 (slotV sndM off inbw) (slotV rcvM off inbw') hsrcw hdstw) fun _ =>
            .op (.load sndM (slotR off inb).toLoadRect hl1) fun a => .op (.load rcvM (slotR off inb').toLoadRect hl2) fun b =>
            .op (.load outM (rowR off' inb2).toLoadRect hl3) fun _ => .op (.store outM (rowR off' inb2) (pay a b) Finset.univ hx hm) fun _ =>
            .op (.enqueueDma (rowV off3 inb3) (.remote (Dev.tc d : Thread nD τ) (rowV off3 inb3') (.dma sS) hsc) (.dma sR) hsrc hdst hsem) cont) Q) := by
  subst hn hn'
  unfold phS
  rw [ph_out, ph_in]; unfold TS DS
  iintro ⟨#HR, ⟨⟨Hs, Hc, Hat, ⟨%f, Hrow⟩, Hd, Ht2, Ht3⟩, Hr⟩, HO⟩ Hk
  iapply (step_wait m ρ K c k 1 h1 (owedY c k.val) (mayWait_x c k k.val) (credit_rcv off inbw')) $$ [Hc HO Hat]
  · isplitr; · iexact HR
    isplitl [Hc]; · iexact Hc
    isplitl [HO] <;> iassumption
  iintro ⟨HO, Hz, Hp⟩
  ihave Hp := (show (xferPay m ρ c (1 : Fin 4).val k : sProp 𝕄) ⊢ rcvPts c k (sndOf m ρ (xp c)) from BI.Entails.refl _) $$ Hp
  iapply (step_sum m ρ c k hoff hoff' hpay fullShare.right f) $$ [Hs Hp Hrow]
  · isplitl [Hs]; · iexact Hs
    isplitl [Hp] <;> iassumption
  iintro ⟨Hs, Hp, Hrow⟩
  iapply (step_sendY m ρ K c k hd hS hR hoff3) $$ [Hrow Hd HO Ht2 Ht3]
  · isplitr; · iexact HR
    isplitl [Hrow]; · iexact Hrow
    isplitl [Hd]; · iexact Hd
    isplitl [HO]; · iexact HO
    isplitl [Ht2] <;> iassumption
  iintro ⟨Hc, HO⟩
  iapply Hk
  isplitr [HO]
  · isplitr [Hr]
    · isplitl [Hs]; · iexact Hs
      isplitl [Hp]; · iexact Hp
      isplitl [Hz] <;> iassumption
    · iexact Hr
  iexact HO

/-- Waiting for block `k` from `yp c`. -/
theorem run_recv (n n' : ℕ) (hn : n = k.val) (hn' : n' = k.val + 1) {s3 : DmaSem sig} (h3 : s3 = dsem 3 k) {off off' : Fin 2 → ℕ} {inb inb'} {hsrc hdst}
    {α : Type} {Q : α → sProp 𝕄} {cont : PUnit → Prog (TpuEff nD τ sig (Elt F) Λ₀ .tc) α} :
    iprop(recs m ρ K ∗ phR m ρ c n ∗ owesE c 0)
      ⊢ iprop(((phR m ρ c n' ∗ owesE c 0) -∗ wp frame (wpE (defs₀ (F := F)) 𝒱₀ (c : Thread nD τ) none) Set.univ (cont ⟨⟩) Q)
        -∗ wp frame (wpE (defs₀ (F := F)) 𝒱₀ (c : Thread nD τ) none) Set.univ
          (.op (.waitDma2 s3 (rowV off inb) (rowV off' inb') hsrc hdst) cont) Q) := by
  subst hn hn'
  unfold phR
  rw [ph_out, ph_in]; unfold TR DR
  iintro ⟨#HR, ⟨⟨Hc, Hat⟩, Hr⟩, HO⟩ Hk
  iapply (step_wait m ρ K c k 3 h3 0 (mayWait_zero c _) (credit_row off' inb')) $$ [Hc HO Hat]
  · isplitr; · iexact HR
    isplitl [Hc]; · iexact Hc
    isplitl [HO] <;> iassumption
  iintro ⟨HO, Hz, Hp⟩
  ihave Hp := (show (xferPay m ρ c (3 : Fin 4).val k : sProp 𝕄) ⊢ rowPts c (itsRow c + 32 * k.val) (outOf m ρ c) from BI.Entails.refl _) $$ Hp
  iapply Hk
  isplitr [HO]
  · isplitr [Hr]
    · isplitl [Hz] <;> iassumption
    · iexact Hr
  iexact HO

/-- Waiting for the device's own two sends of block `k`. -/
theorem run_end (n n' : ℕ) (hn : n = k.val) (hn' : n' = k.val + 1) {s0 s2 : DmaSem sig} (h0 : s0 = dsem 0 k) (h2 : s2 = dsem 2 k) {off off' : Fin 3 → ℕ} {inb inb'} {hsrc hdst}
    {off2 off2' : Fin 2 → ℕ} {inb2 inb2'} {hsrc2 hdst2}
    {α : Type} {Q : α → sProp 𝕄} {cont : PUnit → Prog (TpuEff nD τ sig (Elt F) Λ₀ .tc) α} :
    iprop(recs m ρ K ∗ phE m ρ c n ∗ owesE c 0)
      ⊢ iprop(((phE m ρ c n' ∗ owesE c 0) -∗ wp frame (wpE (defs₀ (F := F)) 𝒱₀ (c : Thread nD τ) none) Set.univ (cont ⟨⟩) Q)
        -∗ wp frame (wpE (defs₀ (F := F)) 𝒱₀ (c : Thread nD τ) none) Set.univ
          (.op (.waitDma2 s0 (slotV rcvM off inb) (slotV sndM off' inb') hsrc hdst) fun _ => .op (.waitDma2 s2 (rowV off2 inb2) (rowV off2' inb2') hsrc2 hdst2) cont) Q) := by
  subst hn hn'
  unfold phE
  rw [ph_out, ph_in]; unfold TE DE
  iintro ⟨#HR, ⟨⟨Hc, Hat, Hc', Hat'⟩, Hr⟩, HO⟩ Hk
  iapply (step_wait m ρ K c k 0 h0 0 (mayWait_zero c _) (credit_snd off' inb')) $$ [Hc HO Hat]
  · isplitr; · iexact HR
    isplitl [Hc]; · iexact Hc
    isplitl [HO] <;> iassumption
  iintro ⟨HO, Hz, Hp⟩
  ihave Hp := (show (xferPay m ρ c (0 : Fin 4).val k : sProp 𝕄) ⊢ sndPts c k fullShare.left (sndOf m ρ c) from BI.Entails.refl _) $$ Hp
  iapply (step_wait m ρ K c k 2 h2 0 (mayWait_zero c _) (credit_row off2' inb2')) $$ [Hc' HO Hat']
  · isplitr; · iexact HR
    isplitl [Hc']; · iexact Hc'
    isplitl [HO] <;> iassumption
  iintro ⟨HO, Hz', Hp'⟩
  ihave Hp' := (show (xferPay m ρ c (2 : Fin 4).val k : sProp 𝕄) ⊢ rowPts c (myRow c + 32 * k.val) (outOf m ρ c) from BI.Entails.refl _) $$ Hp'
  iapply Hk
  isplitr [HO]
  · isplitr [Hr]
    · isplitl [Hz]; · iexact Hz
      isplitl [Hz']; · iexact Hz'
      isplitl [Hp] <;> iassumption
    · iexact Hr
  iexact HO

end Runs

end Cert.KernelIdealRun

end
-- ==== Proof.IdealData.lean ====
/-
# What a device's body starts from and leaves: the buffers cut in blocks and joined again, and the barrier
-/
module

public import proofs.«01_k».proof.Proof.IdealPhases
public import Idealize.ShloMosaic.Lib.Ring

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting and joining the buffers -/

omit [FloatOps F] in
/-- A conjunction over the eight blocks of each of two families. -/
theorem bigSep_two (Φ Ψ : Fin 8 → sProp 𝕄) : bigSep Finset.univ (fun k => iprop(Φ k ∗ Ψ k)) = iprop(bigSep Finset.univ Φ ∗ bigSep Finset.univ Ψ) :=
  bigSep_sep' _ Φ Ψ

omit [FloatOps F] in
theorem snd_cut (c : Dev nD) :
    iprop(∃ f : Buf (Elt F) ((c : Thread nD τ).loc cc0_scratch0), ((c : Thread nD τ).loc cc0_scratch0) ↦{fullShare} f) ⊢ (bigSep Finset.univ (TP c) : sProp 𝕄) := by
  iintro ⟨%f, H⟩
  have h : (((c : Thread nD τ).loc cc0_scratch0) ↦{fullShare} f : sProp 𝕄) ⊢ bigSep Finset.univ (TP c) := by
    rw [Ring.pointsTo_blocks (ℓ := (c : Thread nD τ).loc cc0_scratch0) slotSet slots_disjoint slots_cover f]
    exact bigSep_mono fun k _ => by show (_ : sProp 𝕄) ⊢ _; unfold TP sndPts; iintro H; iexists f; iexact H
  iapply h; iexact H
omit [FloatOps F] in
theorem rcv_cut (c : Dev nD) :
    iprop(∃ f : Buf (Elt F) ((c : Thread nD τ).loc cc0_scratch1), ((c : Thread nD τ).loc cc0_scratch1) ↦{fullShare} f)
      ⊢ (bigSep Finset.univ (fun k => iprop(∃ fd, rcvPts c k fd)) : sProp 𝕄) := by
  iintro ⟨%f, H⟩
  have h : (((c : Thread nD τ).loc cc0_scratch1) ↦{fullShare} f : sProp 𝕄) ⊢ bigSep Finset.univ (fun k => iprop(∃ fd, rcvPts c k fd)) := by
    rw [Ring.pointsTo_blocks (ℓ := (c : Thread nD τ).loc cc0_scratch1) slotSet slots_disjoint slots_cover f]
    exact bigSep_mono fun k _ => by show (_ : sProp 𝕄) ⊢ _; unfold rcvPts; iintro H; iexists f; iexact H
  iapply h; iexact H
omit [FloatOps F] in
theorem rows_split (c : Dev nD) (b : ℕ) (f : Buf (Elt F) ((c : Thread nD τ).loc cc0_stg2_0)) (S : Finset S512x512.Idx)
    (hS : (Finset.univ : Finset (Fin 8)).biUnion (fun k => rowSet (b + 32 * k.val)) = S) :
    (((c : Thread nD τ).loc cc0_stg2_0) ↦[S]{fullShare} f : sProp 𝕄) = bigSep Finset.univ (fun k : Fin 8 => rowPts c (b + 32 * k.val) f) := by
  subst hS
  exact pointsTo_biUnion (ℓ := (c : Thread nD τ).loc cc0_stg2_0) Finset.univ (fun k : Fin 8 => rowSet (b + 32 * k.val)) (fun i _ j _ h => rows_disjoint b i j h)
omit [FloatOps F] in
theorem half_rows (c : Dev nD) (y : ℕ) (f : Buf (Elt F) ((c : Thread nD τ).loc cc0_stg2_0)) :
    (halfPts c y f : sProp 𝕄) = bigSep Finset.univ (fun k : Fin 8 => rowPts c (256 * y + 32 * k.val) f) :=
  rows_split c (256 * y) f (halfSet y) (rows_cover y)
omit [FloatOps F] in
theorem half_cut (c : Dev nD) (y : ℕ) :
    iprop(∃ f, halfPts c y f) ⊢ (bigSep Finset.univ (fun k : Fin 8 => iprop(∃ fd, rowPts c (256 * y + 32 * k.val) fd)) : sProp 𝕄) := by
  iintro ⟨%f, H⟩
  have h : (halfPts c y f : sProp 𝕄) ⊢ bigSep Finset.univ (fun k : Fin 8 => iprop(∃ fd, rowPts c (256 * y + 32 * k.val) fd)) := by
    rw [half_rows]
    exact bigSep_mono fun k _ => by show (_ : sProp 𝕄) ⊢ _; iintro H; iexists f; iexact H
  iapply h; iexact H
omit [FloatOps F] in
theorem out_halves (c : Dev nD) (y : ℕ) (hy : y < 2) (f : Buf (Elt F) ((c : Thread nD τ).loc cc0_stg2_0)) :
    (((c : Thread nD τ).loc cc0_stg2_0) ↦{fullShare} f : sProp 𝕄) ⊣⊢ iprop(halfPts c y f ∗ halfPts c (1 - y) f) := by
  unfold halfPts
  rw [← halves_cover y hy]
  exact pointsTo_union (halves_disjoint y)
omit [FloatOps F] in
theorem rcv_join (c : Dev nD) (f : Buf (Elt F) ((c : Thread nD τ).loc cc0_scratch1)) :
    (bigSep Finset.univ (fun k => rcvPts c k f) : sProp 𝕄) ⊢ iprop(∃ f : Buf (Elt F) ((c : Thread nD τ).loc cc0_scratch1), ((c : Thread nD τ).loc cc0_scratch1) ↦{fullShare} f) := by
  unfold rcvPts
  rw [← Ring.pointsTo_blocks (ℓ := (c : Thread nD τ).loc cc0_scratch1) slotSet slots_disjoint slots_cover f]
  iintro H; iexists f; iexact H
omit [FloatOps F] in
theorem snd_join (c : Dev nD) (f : Buf (Elt F) ((c : Thread nD τ).loc cc0_scratch0)) :
    iprop((bigSep Finset.univ fun k => sndPts c k fullShare.left f) ∗ (bigSep Finset.univ fun k => sndPts c k fullShare.right f))
      ⊢ (iprop(∃ f : Buf (Elt F) ((c : Thread nD τ).loc cc0_scratch0), ((c : Thread nD τ).loc cc0_scratch0) ↦{fullShare} f) : sProp 𝕄) := by
  unfold sndPts
  rw [← Ring.pointsTo_blocks (ℓ := (c : Thread nD τ).loc cc0_scratch0) slotSet slots_disjoint slots_cover f,
    ← Ring.pointsTo_blocks (ℓ := (c : Thread nD τ).loc cc0_scratch0) slotSet slots_disjoint slots_cover f]
  iintro H; iexists f
  iapply (pointsTo_share (PosShare.mem_left_op_right fullShare)).2; iexact H

/-! ## The phases' first and last states, family by family -/

section Ends
variable (c : Dev nD)
omit [FloatOps F] in
theorem phP_start : phP c 0 = (bigSep Finset.univ (TP c) : sProp 𝕄) := ph_start _ _
omit [FloatOps F] in
theorem phP_done : (phP c 8 : sProp 𝕄) = iprop(emp) := (ph_done _ _).trans (bigSep_emp_const _)
theorem phX_start : phX m ρ c 0 = iprop((bigSep Finset.univ fun k => iprop(∃ fd, rcvPts (xp c) k fd))
    ∗ (bigSep Finset.univ fun k => dutyTok ER (dC c 0 k) 0 false) ∗ (bigSep Finset.univ fun k => dutyTok ER (dC (xp c) 1 k) 0 false)) := by
  unfold phX; rw [ph_start]; unfold TX; rw [bigSep_two, bigSep_two]
theorem phX_done : phX m ρ c 8 = iprop((bigSep Finset.univ fun k => sndPts c k fullShare.right (sndOf m ρ c))
    ∗ (bigSep Finset.univ fun k => cred (tallyAt (dC c 0 k) () N))) := by
  unfold phX; rw [ph_done]; unfold DX; rw [bigSep_two]
theorem phS_start : phS m ρ c 0 = iprop((bigSep Finset.univ fun k => sndPts c k fullShare.right (sndOf m ρ c))
    ∗ (bigSep Finset.univ fun k => cred (tallyAt (dC c 1 k) () N)) ∗ (bigSep Finset.univ fun k => atPos ER (dC c 1 k) 0 ∅ 0)
    ∗ (bigSep Finset.univ fun k : Fin 8 => iprop(∃ f, rowPts c (myRow c + 32 * k.val) f)) ∗ (bigSep Finset.univ fun k : Fin 8 => iprop(∃ f, rowPts (yp c) (myRow c + 32 * k.val) f))
    ∗ (bigSep Finset.univ fun k => dutyTok ER (dC c 2 k) 0 false) ∗ (bigSep Finset.univ fun k => dutyTok ER (dC (yp c) 3 k) 0 false)) := by
  unfold phS; rw [ph_start]; unfold TS; rw [bigSep_two, bigSep_two, bigSep_two, bigSep_two, bigSep_two, bigSep_two]
theorem phS_done : phS m ρ c 8 = iprop((bigSep Finset.univ fun k => sndPts c k fullShare.right (sndOf m ρ c)) ∗ (bigSep Finset.univ fun k => rcvPts c k (sndOf m ρ (xp c)))
    ∗ (bigSep Finset.univ fun k => semVal (dC c 1 k) 0) ∗ (bigSep Finset.univ fun k => cred (tallyAt (dC c 2 k) () N))) := by
  unfold phS; rw [ph_done]; unfold DS; rw [bigSep_two, bigSep_two, bigSep_two]
theorem phR_start : phR m ρ c 0 = iprop((bigSep Finset.univ fun k => cred (tallyAt (dC c 3 k) () N)) ∗ (bigSep Finset.univ fun k => atPos ER (dC c 3 k) 0 ∅ 0)) := by
  unfold phR; rw [ph_start]; unfold TR; rw [bigSep_two]
theorem phR_done : phR m ρ c 8 = iprop((bigSep Finset.univ fun k => semVal (dC c 3 k) 0) ∗ (bigSep Finset.univ fun k : Fin 8 => rowPts c (itsRow c + 32 * k.val) (outOf m ρ c))) := by
  unfold phR; rw [ph_done]; unfold DR; rw [bigSep_two]
theorem phE_start : phE m ρ c 0 = iprop((bigSep Finset.univ fun k => cred (tallyAt (dC c 0 k) () N)) ∗ (bigSep Finset.univ fun k => atPos ER (dC c 0 k) 0 ∅ 0)
    ∗ (bigSep Finset.univ fun k => cred (tallyAt (dC c 2 k) () N)) ∗ (bigSep Finset.univ fun k => atPos ER (dC c 2 k) 0 ∅ 0)) := by
  unfold phE; rw [ph_start]; unfold TE; rw [bigSep_two, bigSep_two, bigSep_two]
theorem phE_done : phE m ρ c 8 = iprop((bigSep Finset.univ fun k => semVal (dC c 0 k) 0) ∗ (bigSep Finset.univ fun k => semVal (dC c 2 k) 0)
    ∗ (bigSep Finset.univ fun k => sndPts c k fullShare.left (sndOf m ρ c)) ∗ (bigSep Finset.univ fun k : Fin 8 => rowPts c (myRow c + 32 * k.val) (outOf m ρ c))) := by
  unfold phE; rw [ph_done]; unfold DE; rw [bigSep_two, bigSep_two, bigSep_two]
end Ends

/-! ## The barrier -/

section Bar
variable (K : Dev nD × Cell → ℕ) (c : Dev nD)

/-- The signal to `xp c`, handing over the own receive buffer. -/
theorem step_sigX {n : Dev nD} (hn : n = xp c) {α : Type} {Q : α → sProp 𝕄} {cont : PUnit → Prog (TpuEff nD τ sig (Elt F) Λ₀ .tc) α} :
    iprop(recs m ρ K ∗ owesE c (O₀ c) ∗ dutyTok ER (barC (xp c)) 0 false ∗ (∃ f : Buf (Elt F) ((c : Thread nD τ).loc cc0_scratch1), ((c : Thread nD τ).loc cc0_scratch1) ↦{fullShare} f))
      ⊢ iprop((owesE c (owed1 c) -∗ wp frame (wpE (defs₀ (F := F)) 𝒱₀ (c : Thread nD τ) none) Set.univ (cont ⟨⟩) Q)
        -∗ wp frame (wpE (defs₀ (F := F)) 𝒱₀ (c : Thread nD τ) none) Set.univ (.op (.semSignal (Dev.tc n : Thread nD τ) barS 1) cont) Q) := by
  subst hn
  unfold owesE
  iintro ⟨#HR, ⟨%W, HO⟩, Ht, Hrcv⟩ Hk
  iapply (Rounds.wp_signal 𝒱₀ ER (sched m ρ) (c : Thread nD τ) none (dst := (xp c : Thread nD τ)) (κ := K (xp c, none))
      (d := false) (by rw [duties_bar]; exact Finset.mem_univ _) ((amount_bar m ρ (xp c) false).trans (by decide)) () (owed1 c) rfl) $$ [HO Ht Hrcv]
  · isplitr; · iapply (recs_inv m ρ K (xp c, none)); iexact HR
    isplitl [HO]; · iexact HO
    isplitl [Ht]; · iexact Ht
    isplitl [Hrcv]
    · rw [payload_bar]
      unfold barPay; rw [if_neg (by decide), xp_xp]; iexact Hrcv
    · iapply (recs_reached m ρ K (xp c, none)); iexact HR
  iintro HO
  iapply Hk
  iexists W; iexact HO

/-- The signal to `yp c`, handing over the half of the own result that `yp c` computes. -/
theorem step_sigY {n : Dev nD} (hn : n = yp c) {α : Type} {Q : α → sProp 𝕄} {cont : PUnit → Prog (TpuEff nD τ sig (Elt F) Λ₀ .tc) α} :
    iprop(recs m ρ K ∗ owesE c (owed1 c) ∗ dutyTok ER (barC (yp c)) 0 true ∗ (∃ f, halfPts c (1 - c.val % 2) f))
      ⊢ iprop((owesE c (owedX c 0) -∗ wp frame (wpE (defs₀ (F := F)) 𝒱₀ (c : Thread nD τ) none) Set.univ (cont ⟨⟩) Q)
        -∗ wp frame (wpE (defs₀ (F := F)) 𝒱₀ (c : Thread nD τ) none) Set.univ (.op (.semSignal (Dev.tc n : Thread nD τ) barS 1) cont) Q) := by
  subst hn
  unfold owesE
  iintro ⟨#HR, ⟨%W, HO⟩, Ht, Hrcv⟩ Hk
  iapply (Rounds.wp_signal 𝒱₀ ER (sched m ρ) (c : Thread nD τ) none (dst := (yp c : Thread nD τ)) (κ := K (yp c, none))
      (d := true) (by rw [duties_bar]; exact Finset.mem_univ _) ((amount_bar m ρ (yp c) true).trans (by decide)) () (owedX c 0) rfl) $$ [HO Ht Hrcv]
  · isplitr; · iapply (recs_inv m ρ K (yp c, none)); iexact HR
    isplitl [HO]; · iexact HO
    isplitl [Ht]; · iexact Ht
    isplitl [Hrcv]
    · rw [payload_bar]
      unfold barPay; rw [if_pos rfl, yp_yp, yp_col]; iexact Hrcv
    · iapply (recs_reached m ρ K (yp c, none)); iexact HR
  iintro HO
  iapply Hk
  iexists W; iexact HO

/-- The barrier wait: the receive buffer of `xp c` and the own half of the result of `yp c` arrive. -/
theorem step_bar {α : Type} {Q : α → sProp 𝕄} {cont : PUnit → Prog (TpuEff nD τ sig (Elt F) Λ₀ .tc) α} :
    iprop(recs m ρ K ∗ cred (tallyAt (barC c) () 2) ∗ owesE c (owedX c 0) ∗ atPos ER (barC c) 0 ∅ 0)
      ⊢ iprop(((owesE c (owedX c 0) ∗ semVal (barC c) 0
            ∗ (∃ f : Buf (Elt F) ((xp c : Thread nD τ).loc cc0_scratch1), ((xp c : Thread nD τ).loc cc0_scratch1) ↦{fullShare} f) ∗ (∃ f, halfPts (yp c) (c.val % 2) f))
          -∗ wp frame (wpE (defs₀ (F := F)) 𝒱₀ (c : Thread nD τ) none) Set.univ (cont ⟨⟩) Q)
        -∗ wp frame (wpE (defs₀ (F := F)) 𝒱₀ (c : Thread nD τ) none) Set.univ (.op (.semWait barS 2) cont) Q) := by
  unfold owesE
  iintro ⟨#HR, Hc, ⟨%W, HO⟩, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := owedX c 0) (W := W) (R := 0) (m := 0) (T := ∅)
      (by rw [expect_bar])) $$ [Hc HO Hat]
  · isplitr; · iapply (recs_inv m ρ K (c, none)); iexact HR
    isplitl [Hc]; · iexact Hc
    isplitl [HO]; · iexact HO
    isplitr; · iapply (mayWait_bar c); iapply (recs_lev m ρ K); iexact HR
    iexact Hat
  iintro ⟨HO, Hat, -, Hpay⟩
  ihave Hp := (Entails.of_eq (rest_bar m ρ c)) $$ Hpay
  imod (Rounds.cell_close ER (sched m ρ) (Set.mem_univ (K (c, none))) (fun h => h) (R := 0 + 1) (duties_later m ρ (barC c))) $$ [Hat] with Hz
  · isplitr; · iapply (recs_inv m ρ K (c, none)); iexact HR
    iexact Hat
  iapply Hk
  isplitl [HO]; · iexists _; iexact HO
  isplitl [Hz]; · iexact Hz
  unfold barPay
  rw [if_neg (by decide), if_pos rfl]
  iexact Hp
end Bar

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The records, the positions and the duty tokens device `c` starts from. -/
def ghost (K : Dev nD × Cell → ℕ) (c : Dev nD) : sProp 𝕄 :=
  iprop(((bigSep Finset.univ fun ck : Dev nD × Cell => cellInv ER (sched m ρ) (K ck) (kcell ck)) ∗ (bigSep Finset.univ fun ck : Dev nD × Cell => reached ER (kcell ck) 0))
    ∗ (atPos ER (barC c) 0 ∅ 0 ∗ (bigSep Finset.univ fun k => atPos ER (dC c 0 k) 0 ∅ 0) ∗ (bigSep Finset.univ fun k => atPos ER (dC c 1 k) 0 ∅ 0)
      ∗ (bigSep Finset.univ fun k => atPos ER (dC c 2 k) 0 ∅ 0) ∗ (bigSep Finset.univ fun k => atPos ER (dC c 3 k) 0 ∅ 0))
    ∗ (dutyTok ER (barC (xp c)) 0 false ∗ dutyTok ER (barC (yp c)) 0 true ∗ (bigSep Finset.univ fun k => dutyTok ER (dC c 0 k) 0 false)
      ∗ (bigSep Finset.univ fun k => dutyTok ER (dC (xp c) 1 k) 0 false) ∗ (bigSep Finset.univ fun k => dutyTok ER (dC c 2 k) 0 false)
      ∗ (bigSep Finset.univ fun k => dutyTok ER (dC (yp c) 3 k) 0 false)))

/-- The credits device `c` starts from. -/
def creds (c : Dev nD) : sProp 𝕄 :=
  iprop(cred (tallyAt (barC c) () 2) ∗ (bigSep Finset.univ fun k => cred (tallyAt (dC c 1 k) () N)) ∗ (bigSep Finset.univ fun k => cred (tallyAt (dC c 3 k) () N)))

def start (c : Dev nD) : sProp 𝕄 := iprop((∃ K, ghost m ρ K c) ∗ creds c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the body: the two buffers back, every own semaphore at zero, and the barrier semaphore too. -/
def Φ₁ (c : Dev nD) : sProp 𝕄 :=
  iprop(scratch c ∗ (bigSep Finset.univ fun jk : Fin 4 × Fin 8 => semVal (dC c jk.1 jk.2) 0) ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => idsAt m ρ c
    | ⟨1, _⟩ => tabAt m ρ c
    | ⟨2, _⟩ => outOf m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
/-- A conjunction over all families and blocks, family by family. -/
theorem bigSep_jk (Φ : Fin 4 × Fin 8 → sProp 𝕄) : bigSep Finset.univ Φ = iprop((bigSep Finset.univ fun k => Φ (0, k)) ∗ (bigSep Finset.univ fun k => Φ (1, k))
    ∗ (bigSep Finset.univ fun k => Φ (2, k)) ∗ (bigSep Finset.univ fun k => Φ (3, k))) := by
  rw [bigSep_univ_prod, bigSep_fin4]

end Cert.KernelIdealRun

end
-- ==== Proof.IdealBody.lean ====
/-
# A device's body, run through
-/
module

public import proofs.«01_k».proof.Proof.IdealData
public import proofs.«01_k».proof.Proof.Gen.KernelIdeal.Points

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem xp_of {c n : Dev nD} (h : n.val = c.val % 2 + 2 - 2 * (c.val / 2)) : n = xp c := by
  apply Fin.ext; rw [h]; clear h; revert c; decide
theorem yp_of {c n : Dev nD} (h : n.val = 2 * (c.val / 2) + 1 - c.val % 2) : n = yp c := by
  apply Fin.ext; rw [h]; clear h; revert c; decide

/-- What the body loads of the table is the shard as staged. -/
theorem read_tab (f : (cc0_stg1_0 : Ref sig .tc).ty.Contents (Elt F)) (inb) :
    tabM.view.readAt (Elt F) (Rect.unit (s := S4096x512) ![0, 0] S4096x512.size inb).toLoadRect f = f :=
  Memref.readAt_unit_zero (Elt F) cc0_stg1_0 (funext fun a => by fin_cases a <;> rfl) _ f

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (idsAt m ρ c) ∗ stg c cc0_stg1_0 (tabAt m ρ c) ∗ stg c cc0_stg2_0 (outOf m ρ c))

/-- What the run of the body needs, with the windows' contents plain. -/
def runPre (K : Dev nD × Cell → ℕ) (c : Dev nD) (f : Buf (Elt F) ((c : Thread nD τ).loc cc0_stg2_0)) : sProp 𝕄 :=
  iprop(recs m ρ K ∗ (ghost m ρ K c ∗ creds c ∗ scratch c) ∗ owesE c (O₀ c)
    ∗ (((c : Thread nD τ).loc cc0_stg0_0) ↦{fullShare} idsAt m ρ c) ∗ (((c : Thread nD τ).loc cc0_stg1_0) ↦{fullShare} tabAt m ρ c)
    ∗ (((c : Thread nD τ).loc cc0_stg2_0) ↦{fullShare} f))
/-- What it leaves. -/
def runPost (c : Dev nD) : sProp 𝕄 :=
  iprop(Φ₁ c ∗ owesE c 0
    ∗ (((c : Thread nD τ).loc cc0_stg0_0) ↦{fullShare} idsAt m ρ c) ∗ (((c : Thread nD τ).loc cc0_stg1_0) ↦{fullShare} tabAt m ρ c)
    ∗ (((c : Thread nD τ).loc cc0_stg2_0) ↦{fullShare} outOf m ρ c))

section Body
variable (K : Dev nD × Cell → ℕ)

set_option maxHeartbeats 8000000 in
set_option maxRecDepth 20000 in
/-- The body, one theorem per step in program order. -/
theorem sound_body (c : Dev nD) (f2 : Buf (Elt F) ((c : Thread nD τ).loc cc0_stg2_0)) (Kt : PUnit → sProp 𝕄) :
    iprop(runPre m ρ K c f2 ∗ (runPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  simp only [semSignalWord, semWaitWord, Prog.lift, Prog.bind_op, Prog.bind_ret, Prog.pure_eq_ret, Prog.bind_assoc, wp_deviceId]
  unfold runPre ghost creds scratch
  iintro ⟨⟨#HR, ⟨⟨-, ⟨HatB, Hat0, Hat1, Hat2, Hat3⟩, ⟨HtBX, HtBY, Ht0, Ht1, Ht2, Ht3⟩⟩, ⟨HcB, Hc1, Hc3⟩, Hsnd, Hrcv⟩, HO, Hids, Htab, Hout⟩, Hk⟩
  ihave Hh := (out_halves c (c.val % 2) (Nat.mod_lt _ (by decide)) f2).1 $$ Hout
  icases Hh with ⟨Hmine, Hits⟩
  iapply (step_sigX m ρ K c (xp_of (k0_dev1_eq c))) $$ [HO HtBX Hrcv]
  · isplitr; · iexact HR
    isplitl [HO]; · iexact HO
    isplitl [HtBX] <;> iassumption
  iintro HO
  iapply (step_sigY m ρ K c (yp_of (k0_dev2_eq c))) $$ [HO HtBY Hits]
  · isplitr; · iexact HR
    isplitl [HO]; · iexact HO
    isplitl [HtBY]; · iexact HtBY
    iexists f2; iexact Hits
  iintro HO
  iapply (wp_load 𝒱₀ (c : Thread nD τ) none Set.univ (m := idsM) (Finset.subset_univ _)) $$ Hids; iintro Hids
  iapply (wp_load 𝒱₀ (c : Thread nD τ) none Set.univ (m := tabM) (Finset.subset_univ _)) $$ Htab; iintro Htab
  rw [read_tab]
  ihave HP := ((snd_cut c).trans (Entails.of_eq (phP_start c).symm)) $$ Hsnd
  -- block 0 of the own rows, then the barrier
  iapply (run_put m ρ c 0 0 1 rfl rfl rfl (fun j => slice_block (rowsOf m ρ c) 0 0 rfl _ _ j)) $$ HP
  iintro ⟨HP, Hs⟩
  iapply (step_bar m ρ K c) $$ [HcB HO HatB]
  · isplitr; · iexact HR
    isplitl [HcB]; · iexact HcB
    isplitl [HO] <;> iassumption
  iintro ⟨HO, HzB, HrcvX, HhalfY⟩
  ihave HX := (Entails.of_eq (phX_start m ρ c).symm) $$ [HrcvX Ht0 Ht1]
  · isplitl [HrcvX]; · iapply (rcv_cut (xp c)); iexact HrcvX
    isplitl [Ht0] <;> iassumption
  iapply (run_sendX m ρ K c 0 0 1 rfl rfl (xp_of (k0_dev3_eq c)) rfl rfl rfl) $$ [HX Hs HO]
  · isplitr; · iexact HR
    isplitl [HX]; · iexact HX
    isplitl [Hs] <;> iassumption
  iintro ⟨HX, HO⟩
  iapply (run_put m ρ c 1 1 2 rfl rfl rfl (fun j => slice_block (rowsOf m ρ c) 32 1 rfl _ _ j)) $$ HP
  iintro ⟨HP, Hs⟩
  iapply (run_sendX m ρ K c 1 1 2 rfl rfl (xp_of (k0_dev4_eq c)) rfl rfl rfl) $$ [HX Hs HO]
  · isplitr; · iexact HR
    isplitl [HX]; · iexact HX
    isplitl [Hs] <;> iassumption
  iintro ⟨HX, HO⟩
  iapply (run_put m ρ c 2 2 3 rfl rfl rfl (fun j => slice_block (rowsOf m ρ c) 64 2 rfl _ _ j)) $$ HP
  iintro ⟨HP, Hs⟩
  iapply (run_sendX m ρ K c 2 2 3 rfl rfl (xp_of (k0_dev5_eq c)) rfl rfl rfl) $$ [HX Hs HO]
  · isplitr; · iexact HR
    isplitl [HX]; · iexact HX
    isplitl [Hs] <;> iassumption
  iintro ⟨HX, HO⟩
  iapply (run_put m ρ c 3 3 4 rfl rfl rfl (fun j => slice_block (rowsOf m ρ c) 96 3 rfl _ _ j)) $$ HP
  iintro ⟨HP, Hs⟩
  iapply (run_sendX m ρ K c 3 3 4 rfl rfl (xp_of (k0_dev6_eq c)) rfl rfl rfl) $$ [HX Hs HO]
  · isplitr; · iexact HR
    isplitl [HX]; · iexact HX
    isplitl [Hs] <;> iassumption
  iintro ⟨HX, HO⟩
  iapply (run_put m ρ c 4 4 5 rfl rfl rfl (fun j => slice_block (rowsOf m ρ c) 128 4 rfl _ _ j)) $$ HP
  iintro ⟨HP, Hs⟩
  iapply (run_sendX m ρ K c 4 4 5 rfl rfl (xp_of (k0_dev7_eq c)) rfl rfl rfl) $$ [HX Hs HO]
  · isplitr; · iexact HR
    isplitl [HX]; · iexact HX
    isplitl [Hs] <;> iassumption
  iintro ⟨HX, HO⟩
  iapply (run_put m ρ c 5 5 6 rfl rfl rfl (fun j => slice_block (rowsOf m ρ c) 160 5 rfl _ _ j)) $$ HP
  iintro ⟨HP, Hs⟩
  iapply (run_sendX m ρ K c 5 5 6 rfl rfl (xp_of (k0_dev8_eq c)) rfl rfl rfl) $$ [HX Hs HO]
  · isplitr; · iexact HR
    isplitl [HX]; · iexact HX
    isplitl [Hs] <;> iassumption
  iintro ⟨HX, HO⟩
  iapply (run_put m ρ c 6 6 7 rfl rfl rfl (fun j => slice_block (rowsOf m ρ c) 192 6 rfl _ _ j)) $$ HP
  iintro ⟨HP, Hs⟩
  iapply (run_sendX m ρ K c 6 6 7 rfl rfl (xp_of (k0_dev9_eq c)) rfl rfl rfl) $$ [HX Hs HO]
  · isplitr; · iexact HR
    isplitl [HX]; · iexact HX
    isplitl [Hs] <;> iassumption
  iintro ⟨HX, HO⟩
  iapply (run_put m ρ c 7 7 8 rfl rfl rfl (fun j => slice_block (rowsOf m ρ c) 224 7 rfl _ _ j)) $$ HP
  iintro ⟨HP, Hs⟩
  iapply (run_sendX m ρ K c 7 7 8 rfl rfl (xp_of (k0_dev10_eq c)) rfl rfl rfl) $$ [HX Hs HO]
  · isplitr; · iexact HR
    isplitl [HX]; · iexact HX
    isplitl [Hs] <;> iassumption
  iintro ⟨HX, HO⟩
  -- the second exchange
  ihave HXd := (Entails.of_eq (phX_done m ρ c)) $$ HX
  icases HXd with ⟨Hsr, Hc0⟩
  ihave HO := (Entails.of_eq (congrArg (owesE c) (owedX_end c))) $$ HO
  ihave HS := (Entails.of_eq (phS_start m ρ c).symm) $$ [Hsr Hc1 Hat1 Hmine HhalfY Ht2 Ht3]
  · isplitl [Hsr]; · iexact Hsr
    isplitl [Hc1]; · iexact Hc1
    isplitl [Hat1]; · iexact Hat1
    isplitl [Hmine]; · iapply (half_cut c (c.val % 2)); iexists f2; iexact Hmine
    isplitl [HhalfY]; · iapply (half_cut (yp c) (c.val % 2)); iexact HhalfY
    isplitl [Ht2] <;> iassumption
  iapply (run_sum m ρ K c 0 0 1 rfl rfl rfl rfl (k0_off2_eq c 0) (fun _ _ => rfl) (yp_of (k0_dev11_eq c)) rfl rfl (k0_off3_eq c 0)) $$ [HS HO]
  · isplitr; · iexact HR
    isplitl [HS] <;> iassumption
  iintro ⟨HS, HO⟩
  iapply (run_sum m ρ K c 1 1 2 rfl rfl rfl rfl (k0_off2_eq c 1) (fun _ _ => rfl) (yp_of (k0_dev12_eq c)) rfl rfl (k0_off3_eq c 1)) $$ [HS HO]
  · isplitr; · iexact HR
    isplitl [HS] <;> iassumption
  iintro ⟨HS, HO⟩
  iapply (run_sum m ρ K c 2 2 3 rfl rfl rfl rfl (k0_off2_eq c 2) (fun _ _ => rfl) (yp_of (k0_dev13_eq c)) rfl rfl (k0_off3_eq c 2)) $$ [HS HO]
  · isplitr; · iexact HR
    isplitl [HS] <;> iassumption
  iintro ⟨HS, HO⟩
  iapply (run_sum m ρ K c 3 3 4 rfl rfl rfl rfl (k0_off2_eq c 3) (fun _ _ => rfl) (yp_of (k0_dev14_eq c)) rfl rfl (k0_off3_eq c 3)) $$ [HS HO]
  · isplitr; · iexact HR
    isplitl [HS] <;> iassumption
  iintro ⟨HS, HO⟩
  iapply (run_sum m ρ K c 4 4 5 rfl rfl rfl rfl (k0_off2_eq c 4) (fun _ _ => rfl) (yp_of (k0_dev15_eq c)) rfl rfl (k0_off3_eq c 4)) $$ [HS HO]
  · isplitr; · iexact HR
    isplitl [HS] <;> iassumption
  iintro ⟨HS, HO⟩
  iapply (run_sum m ρ K c 5 5 6 rfl rfl rfl rfl (k0_off2_eq c 5) (fun _ _ => rfl) (yp_of (k0_dev16_eq c)) rfl rfl (k0_off3_eq c 5)) $$ [HS HO]
  · isplitr; · iexact HR
    isplitl [HS] <;> iassumption
  iintro ⟨HS, HO⟩
  iapply (run_sum m ρ K c 6 6 7 rfl rfl rfl rfl (k0_off2_eq c 6) (fun _ _ => rfl) (yp_of (k0_dev17_eq c)) rfl rfl (k0_off3_eq c 6)) $$ [HS HO]
  · isplitr; · iexact HR
    isplitl [HS] <;> iassumption
  iintro ⟨HS, HO⟩
  iapply (run_sum m ρ K c 7 7 8 rfl rfl rfl rfl (k0_off2_eq c 7) (fun _ _ => rfl) (yp_of (k0_dev18_eq c)) rfl rfl (k0_off3_eq c 7)) $$ [HS HO]
  · isplitr; · iexact HR
    isplitl [HS] <;> iassumption
  iintro ⟨HS, HO⟩
  ihave HSd := (Entails.of_eq (phS_done m ρ c)) $$ HS
  icases HSd with ⟨Hsr, Hrcv, Hz1, Hc2⟩
  ihave HO := (Entails.of_eq (congrArg (owesE c) (owedY_end c))) $$ HO
  -- the blocks of `yp c`
  ihave HRc := (Entails.of_eq (phR_start m ρ c).symm) $$ [Hc3 Hat3]
  · isplitl [Hc3] <;> iassumption
  iapply (run_recv m ρ K c 0 0 1 rfl rfl rfl) $$ [HRc HO]
  · isplitr; · iexact HR
    isplitl [HRc] <;> iassumption
  iintro ⟨HRc, HO⟩
  iapply (run_recv m ρ K c 1 1 2 rfl rfl rfl) $$ [HRc HO]
  · isplitr; · iexact HR
    isplitl [HRc] <;> iassumption
  iintro ⟨HRc, HO⟩
  iapply (run_recv m ρ K c 2 2 3 rfl rfl rfl) $$ [HRc HO]
  · isplitr; · iexact HR
    isplitl [HRc] <;> iassumption
  iintro ⟨HRc, HO⟩
  iapply (run_recv m ρ K c 3 3 4 rfl rfl rfl) $$ [HRc HO]
  · isplitr; · iexact HR
    isplitl [HRc] <;> iassumption
  iintro ⟨HRc, HO⟩
  iapply (run_recv m ρ K c 4 4 5 rfl rfl rfl) $$ [HRc HO]
  · isplitr; · iexact HR
    isplitl [HRc] <;> iassumption
  iintro ⟨HRc, HO⟩
  iapply (run_recv m ρ K c 5 5 6 rfl rfl rfl) $$ [HRc HO]
  · isplitr; · iexact HR
    isplitl [HRc] <;> iassumption
  iintro ⟨HRc, HO⟩
  iapply (run_recv m ρ K c 6 6 7 rfl rfl rfl) $$ [HRc HO]
  · isplitr; · iexact HR
    isplitl [HRc] <;> iassumption
  iintro ⟨HRc, HO⟩
  iapply (run_recv m ρ K c 7 7 8 rfl rfl rfl) $$ [HRc HO]
  · isplitr; · iexact HR
    isplitl [HRc] <;> iassumption
  iintro ⟨HRc, HO⟩
  ihave HRd := (Entails.of_eq (phR_done m ρ c)) $$ HRc
  icases HRd with ⟨Hz3, Hits⟩
  -- the own sends
  ihave HE := (Entails.of_eq (phE_start m ρ c).symm) $$ [Hc0 Hat0 Hc2 Hat2]
  · isplitl [Hc0]; · iexact Hc0
    isplitl [Hat0]; · iexact Hat0
    isplitl [Hc2] <;> iassumption
  iapply (run_end m ρ K c 0 0 1 rfl rfl rfl rfl) $$ [HE HO]
  · isplitr; · iexact HR
    isplitl [HE] <;> iassumption
  iintro ⟨HE, HO⟩
  iapply (run_end m ρ K c 1 1 2 rfl rfl rfl rfl) $$ [HE HO]
  · isplitr; · iexact HR
    isplitl [HE] <;> iassumption
  iintro ⟨HE, HO⟩
  iapply (run_end m ρ K c 2 2 3 rfl rfl rfl rfl) $$ [HE HO]
  · isplitr; · iexact HR
    isplitl [HE] <;> iassumption
  iintro ⟨HE, HO⟩
  iapply (run_end m ρ K c 3 3 4 rfl rfl rfl rfl) $$ [HE HO]
  · isplitr; · iexact HR
    isplitl [HE] <;> iassumption
  iintro ⟨HE, HO⟩
  iapply (run_end m ρ K c 4 4 5 rfl rfl rfl rfl) $$ [HE HO]
  · isplitr; · iexact HR
    isplitl [HE] <;> iassumption
  iintro ⟨HE, HO⟩
  iapply (run_end m ρ K c 5 5 6 rfl rfl rfl rfl) $$ [HE HO]
  · isplitr; · iexact HR
    isplitl [HE] <;> iassumption
  iintro ⟨HE, HO⟩
  iapply (run_end m ρ K c 6 6 7 rfl rfl rfl rfl) $$ [HE HO]
  · isplitr; · iexact HR
    isplitl [HE] <;> iassumption
  iintro ⟨HE, HO⟩
  iapply (run_end m ρ K c 7 7 8 rfl rfl rfl rfl) $$ [HE HO]
  · isplitr; · iexact HR
    isplitl [HE] <;> iassumption
  iintro ⟨HE, HO⟩
  ihave HEd := (Entails.of_eq (phE_done m ρ c)) $$ HE
  icases HEd with ⟨Hz0, Hz2, Hsl, Hmine⟩
  rw [wp_ret]; imodintro
  iapply Hk
  unfold runPost Φ₁ scratch
  isplitl [Hsl Hsr Hrcv Hz0 Hz1 Hz2 Hz3 HzB]
  · isplitl [Hsl Hsr Hrcv]
    · isplitl [Hsl Hsr]
      · iapply (snd_join c (sndOf m ρ c)); isplitl [Hsl] <;> iassumption
      · iapply (rcv_join c (sndOf m ρ (xp c))); iexact Hrcv
    isplitr [HzB]
    · iapply (Entails.of_eq (bigSep_jk fun jk : Fin 4 × Fin 8 => semVal (dC c jk.1 jk.2) 0).symm)
      isplitl [Hz0]; · iexact Hz0
      isplitl [Hz1]; · iexact Hz1
      isplitl [Hz2] <;> iassumption
    · iexact HzB
  isplitl [HO]; · iexact HO
  isplitl [Hids]; · iexact Hids
  isplitl [Htab]; · iexact Htab
  iapply (out_halves c (c.val % 2) (Nat.mod_lt _ (by decide)) (outOf m ρ c)).2
  isplitl [Hmine]
  · iapply (Entails.of_eq (half_rows c (c.val % 2) (outOf m ρ c)).symm); iexact Hmine
  · iapply (Entails.of_eq (half_rows c (1 - c.val % 2) (outOf m ρ c)).symm); iexact Hits

set_option maxRecDepth 20000 in
/-- The launch's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) cc0_scratch2 cc0_scratch3 cc0_scratch4 cc0_scratch5) (fun _ => bodyPost m ρ c)
  unfold bodyPre' Φ₀ start Dat.owesAt Pipeline.owesWithin
  rw [show (dats m ρ 0 c).owed t₀.castSucc = O₀ c from rfl]
  iintro ⟨⟨⟨⟨%K, Hg⟩, Hcr, #Hlev⟩, Hscr⟩, ⟨%W, %hW, HO⟩, ⟨%d0, %g0, %hg0, H0⟩, ⟨%d1, %g1, %hg1, H1⟩, ⟨%d2, %g2, %hg2, H2⟩⟩
  have h0 : g0 = idsAt m ρ c := by rw [hg0]; unfold Dat.before; rw [if_pos (fetch0_0 t₀)]; rfl
  have h1 : g1 = tabAt m ρ c := by rw [hg1]; unfold Dat.before; rw [if_pos (fetch0_1 t₀)]; rfl
  subst h0 h1
  iapply (sound_body m ρ K c g2 fun _ => bodyPost m ρ c)
  unfold ghost
  icases Hg with ⟨#Hrec, Hpos, Htok⟩
  unfold runPre
  isplitr []
  · isplitr
    · unfold recs
      icases Hrec with ⟨#Ha, #Hb⟩
      isplitr; · iexact Ha
      isplitr <;> iassumption
    isplitl [Hpos Htok Hcr Hscr]
    · unfold ghost
      isplitl [Hpos Htok]
      · isplitr; · iexact Hrec
        isplitl [Hpos] <;> iassumption
      isplitl [Hcr] <;> iassumption
    isplitl [HO]; · unfold owesE; iexists W; iexact HO
    isplitl [H0]; · iexact H0
    isplitl [H1] <;> iassumption
  · unfold runPost bodyPost Dat.owesAt Pipeline.owesWithin owesE
    rw [show (dats m ρ 0 c).owed t₀.succ = 0 from rfl]
    iintro ⟨HΦ, ⟨%W', HO⟩, H0, H1, H2⟩
    isplitl [HΦ]; · iexact HΦ
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    iexists _; isplitr; · (ipureintro; rfl)
    iexact H2

end Body

end Cert.KernelIdealRun

end
-- ==== Proof.IdealLaunch.lean ====
/-
# The launch: the ghost state dealt to the devices, and the run of the whole program
-/
module

public import proofs.«01_k».proof.Proof.IdealBody
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their duty tokens -/

/-- The kernel's own semaphores. -/
abbrev osem : Fin 4 × Fin 8 → SemLoc sig := fun jk => .dma (dsem jk.1 jk.2)
theorem ownSemFacts : Pipeline.OwnSemFacts cfg0.spec osem := by decide +kernel

theorem share_eq (c : Dev nD) (w : Fin cfg0.W) : (dats m ρ 0 c).share w = fullShare := by unfold Dat.share; split <;> rfl

omit [FloatOps F] in
theorem bigSep_opt {I : Type} [Fintype I] [DecidableEq I] (Φ : Option I → sProp 𝕄) :
    bigSep Finset.univ Φ = iprop(Φ none ∗ bigSep Finset.univ fun i => Φ (some i)) := by
  rw [bigSep_univ_at Φ none, show (Finset.univ : Finset (Option I)).erase none = Finset.univ.map Function.Embedding.some from by
    ext x; cases x <;> simp, bigSep_map]
  rfl

theorem csem_injective : Function.Injective csem := by
  rintro (_ | ⟨j, k⟩) (_ | ⟨j', k'⟩) h
  · rfl
  · cases h
  · cases h
  · obtain ⟨rfl, rfl⟩ := dsem_inj (SemLoc.dma.inj h); rfl
theorem kcell_injective : Function.Injective kcell := by
  rintro ⟨c, x⟩ ⟨c', x'⟩ h
  have h1 : c = c' := Fin.ext (congrArg (fun g : GSem nD τ sig => g.1.1.val) h)
  have h2 : x = x' := csem_injective (congrArg Prod.snd h)
  rw [h1, h2]
def allCells : Finset (GSem nD τ sig) := Finset.univ.map ⟨kcell, kcell_injective⟩

/-- The duty tokens of a device's own cells: its barrier's two, and one for each of its other cells. -/
abbrev tokOf (ct : Dev nD × Option (Option (Fin 4 × Fin 8))) : GSem nD τ sig × ℕ × Bool := match ct.2 with
  | none => (barC ct.1, 0, false)
  | some none => (barC ct.1, 0, true)
  | some (some jk) => (dC ct.1 jk.1 jk.2, 0, false)
theorem tokOf_injective : Function.Injective tokOf := by
  rintro ⟨c, x⟩ ⟨c', x'⟩ h
  have hb : (tokOf (c, x)).2.2 = (tokOf (c', x')).2.2 := congrArg (fun t => t.2.2) h
  have hc : (tokOf (c, x)).1 = (tokOf (c', x')).1 := congrArg Prod.fst h
  rcases x with _ | _ | ⟨j, k⟩ <;> rcases x' with _ | _ | ⟨j', k'⟩
  · obtain rfl := barC_inj hc; rfl
  · cases hb
  · exact absurd hc.symm (dC_ne_barC _ _ _ _)
  · cases hb
  · obtain rfl := barC_inj hc; rfl
  · cases hb
  · exact absurd hc (dC_ne_barC _ _ _ _)
  · cases hb
  · obtain ⟨rfl, rfl, rfl⟩ := dC_inj hc; rfl
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The positions at round 0 of device `c`'s cells. -/
def pos (c : Dev nD) : sProp 𝕄 :=
  iprop(atPos ER (barC c) 0 ∅ 0 ∗ (bigSep Finset.univ fun k => atPos ER (dC c 0 k) 0 ∅ 0) ∗ (bigSep Finset.univ fun k => atPos ER (dC c 1 k) 0 ∅ 0)
    ∗ (bigSep Finset.univ fun k => atPos ER (dC c 2 k) 0 ∅ 0) ∗ (bigSep Finset.univ fun k => atPos ER (dC c 3 k) 0 ∅ 0))
/-- The tokens of device `c`'s own cells, as made at launch. -/
def toks (c : Dev nD) : sProp 𝕄 :=
  iprop(dutyTok ER (barC c) 0 false ∗ dutyTok ER (barC c) 0 true ∗ (bigSep Finset.univ fun k => dutyTok ER (dC c 0 k) 0 false)
    ∗ (bigSep Finset.univ fun k => dutyTok ER (dC c 1 k) 0 false) ∗ (bigSep Finset.univ fun k => dutyTok ER (dC c 2 k) 0 false)
    ∗ (bigSep Finset.univ fun k => dutyTok ER (dC c 3 k) 0 false))
/-- The tokens of the duties device `c` pays. -/
def pays (c : Dev nD) : sProp 𝕄 :=
  iprop(dutyTok ER (barC (xp c)) 0 false ∗ dutyTok ER (barC (yp c)) 0 true ∗ (bigSep Finset.univ fun k => dutyTok ER (dC c 0 k) 0 false)
    ∗ (bigSep Finset.univ fun k => dutyTok ER (dC (xp c) 1 k) 0 false) ∗ (bigSep Finset.univ fun k => dutyTok ER (dC c 2 k) 0 false)
    ∗ (bigSep Finset.univ fun k => dutyTok ER (dC (yp c) 3 k) 0 false))

omit [FloatOps F] in
theorem pos_eq (c : Dev nD) : (bigSep Finset.univ fun x : Cell => (atPos ER (kcell (c, x)) 0 ∅ 0 : sProp 𝕄)) = pos c := by
  rw [bigSep_opt, bigSep_jk]; rfl

def G (c : Dev nD) : sProp 𝕄 :=
  iprop((bigSep Finset.univ fun x : Cell => roundState ER (sched m ρ) (kcell (c, x)) 0)
    ∗ (bigSep Finset.univ fun x : Cell => iprop(atPos ER (kcell (c, x)) 0 ∅ 0 ∗ reached ER (kcell (c, x)) 0)) ∗ toks c)
def G' (c : Dev nD) : sProp 𝕄 := iprop(∃ K, ghost m ρ K c)

theorem deal : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : Cell => Φ (kcell (c, x)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_opt, bigSep_opt, bigSep_jk]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscoped_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems_start (c : Dev nD) :
    iprop(Pipeline.ownSems0 (Ix := Unit) (Name := ℕ) (U := UU) (Lvl := ℕ) (Val := Elt F) (τ := τ) osem c ∗ unscopedSems0 c)
      ⊢ (bigSep Finset.univ fun x : Cell => semVal (kcell (c, x)) 0 : sProp 𝕄) := by
  rw [unscoped_eq, bigSep_opt]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Cell => iprop(∃ κ : ℕ, cellInv ER (sched m ρ) κ (kcell (c, x))))
          ∗ (bigSep Finset.univ fun x : Cell => iprop(atPos ER (kcell (c, x)) 0 ∅ 0 ∗ reached ER (kcell (c, x)) 0)) ∗ toks c) := by
  unfold G
  iintro ⟨Hos, Hus, Hst, Hat, Htok⟩
  ihave Hv := (sems_start (F := F) c) $$ [Hos Hus]
  · isplitl [Hos] <;> iassumption
  imod (show iprop((bigSep Finset.univ fun x : Cell => semVal (kcell (c, x)) 0) ∗ bigSep Finset.univ fun x : Cell => roundState ER (sched m ρ) (kcell (c, x)) 0)
      ⊢ (|={Set.univ}=> bigSep Finset.univ fun x : Cell => iprop(∃ κ : ℕ, cellInv ER (sched m ρ) κ (kcell (c, x))) : sProp 𝕄) from by
        rw [← bigSep_sep']
        exact (bigSep_mono fun x _ => (Rounds.body_intro ER (sched m ρ) (kcell (c, x))).trans inv_alloc).trans (bigSep_fupd _ _)) $$ [Hv Hst] with Hinv
  · isplitl [Hv] <;> iassumption
  imodintro
  isplitl [Hinv]; · iexact Hinv
  isplitl [Hat] <;> iassumption

/-- The records every device shares. -/
def shared (K : Dev nD × Cell → ℕ) : sProp 𝕄 :=
  iprop((bigSep Finset.univ fun ck : Dev nD × Cell => cellInv ER (sched m ρ) (K ck) (kcell ck)) ∗ bigSep Finset.univ fun ck : Dev nD × Cell => reached ER (kcell ck) 0)
instance shared_persistent (K : Dev nD × Cell → ℕ) : BI.Persistent (shared m ρ K) := by unfold shared; infer_instance

theorem ghost_intro (K : Dev nD × Cell → ℕ) (c : Dev nD) : iprop(shared m ρ K ∗ (pos c ∗ pays c)) ⊢ G' m ρ c := by
  unfold shared G' ghost pos pays
  iintro ⟨HS, HP, HT⟩
  iexists K
  isplitl [HS]; · iexact HS
  isplitl [HP] <;> iassumption

omit [FloatOps F] in
/-- Each token goes to the device that pays it: the neighbour in the mesh column or row, or the device itself. -/
theorem toks_to_payers : (bigSep Finset.univ fun c : Dev nD => (toks c : sProp 𝕄)) ⊢ bigSep Finset.univ fun c : Dev nD => pays c := by
  unfold toks pays
  rw [bigSep_sep', bigSep_sep', bigSep_sep', bigSep_sep', bigSep_sep', bigSep_sep', bigSep_sep', bigSep_sep', bigSep_sep', bigSep_sep',
    bigSep_univ_equiv xEquiv (fun c : Dev nD => (dutyTok ER (barC c) 0 false : sProp 𝕄)),
    bigSep_univ_equiv yEquiv (fun c : Dev nD => (dutyTok ER (barC c) 0 true : sProp 𝕄)),
    bigSep_univ_equiv xEquiv (fun c : Dev nD => (bigSep Finset.univ fun k => dutyTok ER (dC c 1 k) 0 false : sProp 𝕄)),
    bigSep_univ_equiv yEquiv (fun c : Dev nD => (bigSep Finset.univ fun k => dutyTok ER (dC c 3 k) 0 false : sProp 𝕄))]
  exact BI.Entails.refl _

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Cell => iprop(∃ κ : ℕ, cellInv ER (sched m ρ) κ (kcell (c, x))))
          ∗ (bigSep Finset.univ fun x : Cell => iprop(atPos ER (kcell (c, x)) 0 ∅ 0 ∗ reached ER (kcell (c, x)) 0)) ∗ toks c) : sProp 𝕄)
      ⊢ bigSep Finset.univ (G' m ρ) := by
  rw [bigSep_sep', bigSep_sep', ← bigSep_univ_prod (fun ck : Dev nD × Cell => iprop(∃ κ : ℕ, cellInv ER (sched m ρ) κ (kcell ck))),
    bigSep_congr (s := Finset.univ) (fun (c : Dev nD) _ => bigSep_sep' Finset.univ (fun x : Cell => (atPos ER (kcell (c, x)) 0 ∅ 0 : sProp 𝕄)) (fun x => reached ER (kcell (c, x)) 0)),
    bigSep_sep', ← bigSep_univ_prod (fun ck : Dev nD × Cell => (reached ER (kcell ck) 0 : sProp 𝕄)),
    bigSep_congr (s := Finset.univ) (fun (c : Dev nD) _ => pos_eq (F := F) c)]
  iintro ⟨HI, ⟨Hat, #HR⟩, Htok⟩
  ihave HK := (BI.bigSep_exists_pi Finset.univ (fun (ck : Dev nD × Cell) (κ : ℕ) => (cellInv ER (sched m ρ) κ (kcell ck) : sProp 𝕄))) $$ HI
  icases HK with ⟨%K, #HI⟩
  ihave Htk := (toks_to_payers (F := F)) $$ Htok
  iapply (bigSep_beside (R := shared m ρ K) (Φ := fun c => iprop(pos c ∗ pays c)) fun c _ => ghost_intro m ρ K c)
  isplitr
  · unfold shared; isplitl; · iexact HI
    iexact HR
  · iapply (Entails.of_eq (bigSep_sep' Finset.univ (fun c : Dev nD => (pos c : sProp 𝕄)) pays).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem tally_sum_at (e c : Dev nD) (j j' : Fin 4) (k : Fin 8) :
    (∑ i ∈ (Finset.univ : Finset (Fin 8)).filter (fun i => 0 ≤ i.val), tallyAt (dC e j i) () N : CellTallies nD τ sig Unit) (dC c j' k) ()
      = if e = c ∧ j = j' then N else 0 := by
  rw [sum_tally_apply]
  by_cases h : e = c ∧ j = j'
  · obtain ⟨rfl, rfl⟩ := h
    rw [if_pos ⟨rfl, rfl⟩, Finset.sum_eq_single k]
    · rw [tallyAt_apply, if_pos ⟨rfl, rfl⟩]
    · intro i _ hi; rw [tallyAt_apply, if_neg fun h => hi (dC_inj h.1).2.2.symm]
    · intro hk; exact (hk (by simp)).elim
  · rw [if_neg h]
    exact Finset.sum_eq_zero fun i _ => by
      rw [tallyAt_apply, if_neg fun h' => h ⟨(dC_inj h'.1).1.symm, (dC_inj h'.1).2.1.symm⟩]
theorem tally_sum_bar (e c : Dev nD) (j : Fin 4) :
    (∑ i ∈ (Finset.univ : Finset (Fin 8)).filter (fun i => 0 ≤ i.val), tallyAt (dC e j i) () N : CellTallies nD τ sig Unit) (barC c) () = 0 := by
  rw [sum_tally_apply]
  exact Finset.sum_eq_zero fun i _ => by rw [tallyAt_apply, if_neg fun h' => dC_ne_barC _ _ _ _ h'.1.symm]

theorem O₀_apply (d : Dev nD) (g : GSem nD τ sig) :
    O₀ d g () = (∑ i ∈ (Finset.univ : Finset (Fin 8)).filter (fun i => 0 ≤ i.val), tallyAt (dC (yp d) 3 i) () N : CellTallies nD τ sig Unit) g ()
      + (∑ i ∈ (Finset.univ : Finset (Fin 8)).filter (fun i => 0 ≤ i.val), tallyAt (dC (xp d) 1 i) () N : CellTallies nD τ sig Unit) g ()
      + (if g = barC (yp d) then 1 else 0) + (if g = barC (xp d) then 1 else 0) := by
  unfold O₀ owed1 owedX owedY
  rw [Pi.add_apply, Finsupp.add_apply, Pi.add_apply, Finsupp.add_apply, Pi.add_apply, Finsupp.add_apply, tallyAt_apply, tallyAt_apply]
  simp only [and_true]

theorem eq_xp_iff (d c : Dev nD) : xp d = c ↔ d = xp c := ⟨fun h => by rw [← h, xp_xp], fun h => by rw [h, xp_xp]⟩
theorem eq_yp_iff (d c : Dev nD) : yp d = c ↔ d = yp c := ⟨fun h => by rw [← h, yp_yp], fun h => by rw [h, yp_yp]⟩
theorem barC_eq_iff (c d : Dev nD) : barC c = barC d ↔ d = c := ⟨fun h => (barC_inj h).symm, fun h => by rw [h]⟩

theorem owed_bar (d c : Dev nD) : O₀ d (barC c) () = (if d = yp c then 1 else 0) + (if d = xp c then 1 else 0) := by
  rw [O₀_apply, tally_sum_bar, tally_sum_bar]
  simp only [barC_eq_iff, eq_xp_iff, eq_yp_iff, Nat.zero_add]
theorem owed_x (d c : Dev nD) (k : Fin 8) : O₀ d (dC c 1 k) () = if d = xp c then N else 0 := by
  rw [O₀_apply, tally_sum_at, tally_sum_at, if_neg (fun h => absurd h.2 (by decide)), if_neg (dC_ne_barC _ _ _ _), if_neg (dC_ne_barC _ _ _ _)]
  simp only [eq_xp_iff, and_true, Nat.zero_add, Nat.add_zero]
theorem owed_y (d c : Dev nD) (k : Fin 8) : O₀ d (dC c 3 k) () = if d = yp c then N else 0 := by
  rw [O₀_apply, tally_sum_at, tally_sum_at, if_neg (c := xp d = c ∧ _) (fun h => absurd h.2 (by decide)), if_neg (dC_ne_barC _ _ _ _), if_neg (dC_ne_barC _ _ _ _)]
  simp only [eq_yp_iff, and_true, Nat.add_zero]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]
theorem launch_x (c : Dev nD) (k : Fin 8) :
    tallyOn (dC c 1 k) (launchCredit (Pipeline.owing O₀) 0 (dC c 1 k)) = (tallyAt (dC c 1 k) () N : CellTallies nD τ sig Unit) := by
  unfold tallyAt; refine congrArg _ (Finsupp.ext fun u => ?_); cases u
  rw [Pipeline.launchCredit_owing, Finsupp.single_eq_same, Finset.sum_congr rfl fun d _ => owed_x d c k, Finset.sum_ite_eq' Finset.univ (xp c) fun _ => N,
    if_pos (Finset.mem_univ _)]
theorem launch_y (c : Dev nD) (k : Fin 8) :
    tallyOn (dC c 3 k) (launchCredit (Pipeline.owing O₀) 0 (dC c 3 k)) = (tallyAt (dC c 3 k) () N : CellTallies nD τ sig Unit) := by
  unfold tallyAt; refine congrArg _ (Finsupp.ext fun u => ?_); cases u
  rw [Pipeline.launchCredit_owing, Finsupp.single_eq_same, Finset.sum_congr rfl fun d _ => owed_y d c k, Finset.sum_ite_eq' Finset.univ (yp c) fun _ => N,
    if_pos (Finset.mem_univ _)]

omit [FloatOps F] in
theorem creds_intro (c : Dev nD) : (Pipeline.launchCred O₀ c : sProp 𝕄) ⊢ creds c := by
  unfold Pipeline.launchCred
  rw [BI.bigSep_sdiff_split (Finset.subset_univ (Finset.univ.map ⟨csem, csem_injective⟩)), bigSep_map, bigSep_opt, bigSep_jk]
  show iprop((cred (tallyOn (barC c) (launchCredit (Pipeline.owing O₀) 0 (barC c)))
      ∗ _ ∗ (bigSep Finset.univ fun k => cred (tallyOn (dC c 1 k) (launchCredit (Pipeline.owing O₀) 0 (dC c 1 k))))
      ∗ _ ∗ (bigSep Finset.univ fun k => cred (tallyOn (dC c 3 k) (launchCredit (Pipeline.owing O₀) 0 (dC c 3 k))))) ∗ _) ⊢ (creds c : sProp 𝕄)
  simp only [launch_bar, launch_x, launch_y]
  unfold creds
  iintro ⟨⟨HB, -, H1, -, H3⟩, -⟩
  isplitl [HB]; · iexact HB
  isplitl [H1] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscoped_eq]
  unfold Φ₁ scratch Pipeline.ownSems0
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution of the program, from any memory with zero counters and for any float values, ends with each
    window's array at `finalA` on every device and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealRun

end
-- ==== Proof.IdealFinal.lean ====
/-
# The arrays at the end of the run: the arguments as at launch, the result at `outOf`
-/
module

public import proofs.«01_k».proof.Proof.IdealLaunch

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem finalA_ids (c : Dev nD) : finalA m ρ c (0 : Fin 3) = m ((c.tc : Thread nD τ).loc main_arg0) := (dats m ρ 0 c).arrAt_in (0 : Fin 3) rfl _
theorem finalA_tab (c : Dev nD) : finalA m ρ c (1 : Fin 3) = m ((c.tc : Thread nD τ).loc main_arg1) := (dats m ρ 0 c).arrAt_in (1 : Fin 3) rfl _

omit [FloatOps F] in
/-- The one block of the result array is all of it. -/
theorem out_block (t : Fin cfg0.N) (G : S512x512.Idx → Elt F .bf16) : ((cfg0.win (2 : Fin 3)).blk t).view.read (Elt F) G = G := by
  funext y
  show G (((cfg0.win (2 : Fin 3)).blk t).view.emb y) = G y
  refine congrArg G (funext fun a => Fin.ext ?_)
  fin_cases t
  fin_cases a
  · show 0 * 512 + 1 * (y 0).val = (y 0).val; omega
  · show 0 * 512 + 1 * (y 1).val = (y 1).val; omega

theorem finalA_out (c : Dev nD) : finalA m ρ c (2 : Fin 3) = outOf m ρ c := by
  refine (dats m ρ 0 c).arrAt_eq_of_cover (2 : Fin 3) (outOf m ρ c) (fun t _ => ?_) (fun i => ⟨t₀, flush0_2 t₀, ?_⟩)
  · rw [out_block]; rfl
  · have h : ((cfg0.win (2 : Fin 3)).blk t₀).view.emb i = i := by
      funext a; apply Fin.ext
      fin_cases a
      · show 0 * 512 + 1 * (i 0).val = (i 0).val; omega
      · show 0 * 512 + 1 * (i 1).val = (i 1).val; omega
    exact h ▸ ((cfg0.win (2 : Fin 3)).blk t₀).view.emb_mem_set i

/-- Every fair execution ends with the result array at `outOf` on every device, the arguments unchanged and every
    semaphore counter at zero. -/
theorem run_values : θ_run defs (onTc (τ := τ) (main (F := F))) ⟨m, fun _ => 0, ρ⟩ (fun r =>
    (∀ c : Dev nD, r.2.mem ((c.tc : Thread nD τ).loc main_v1) = outOf m ρ c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c (2 : Fin 3)).trans (finalA_out m ρ c), (h.1 c (0 : Fin 3)).trans (finalA_ids m ρ c),
    (h.1 c (1 : Fin 3)).trans (finalA_tab m ρ c)⟩, h.2⟩) (run_main m ρ)

end Cert.KernelIdealRun

end
-- ==== Proof.IdealRows.lean ====
/-
# What one device's product computes over the reals: the rows of its own half of the table, zero where the index is in the other half
-/
module

public import proofs.«01_k».proof.Proof.Gen.KernelIdeal.Skeleton
public import Idealize.ShloMosaic.Lib.Pointwise

@[expose] public section

noncomputable section

namespace Cert.KernelIdealRun

open Cert.KernelIdeal Cert.KernelIdeal.Gen Idealize.ShloMosaic

/-- The first row of device `c`'s half of the table, as a word. -/
theorem half_word (c : Dev nD) :
    Scalar.muli (Scalar.remsi (Scalar.divsi (Dev.word c) 2#32) 2#32) 4096#32 = BitVec.ofNat 32 (4096 * (c.val / 2)) := by
  revert c; decide +kernel

/-- The comparison's bit, widened and read as a real: one where the words are equal, zero elsewhere. -/
theorem bit_real (a b : BitVec 32) :
    (FloatOps.sitofp (F := Ideal) FTy.f32 (BitVec.setWidth 32 (IntOp.cmpi CmpIPredicate.eq a b)) : EReal) = if a = b then 1 else 0 := by
  by_cases h : a = b
  · subst h
    rw [if_pos rfl, show IntOp.cmpi CmpIPredicate.eq a a = 1#1 from by simp [IntOp.cmpi]]
    show (((BitVec.setWidth 32 (1#1)).toInt : ℝ) : EReal) = 1
    rw [show (BitVec.setWidth 32 (1#1)).toInt = 1 from by decide]; norm_num
  · rw [if_neg h, show IntOp.cmpi CmpIPredicate.eq a b = 0#1 from by
      show BitVec.ofBool (a == b) = 0#1; rw [beq_eq_false_iff_ne.mpr h]; rfl]
    show (((BitVec.setWidth 32 (0#1)).toInt : ℝ) : EReal) = 0
    rw [show (BitVec.setWidth 32 (0#1)).toInt = 0 from by decide]; norm_num

/-- Position `k` of half `x` is the one an in-range index names, exactly when the index is `4096 x + k`. -/
theorem position_iff (w : BitVec 32) (hw : w.toNat < 8192) (x k : ℕ) (hx : x < 2) (hk : k < 4096) :
    BitVec.ofNat 32 k = IntOp.subi w (BitVec.ofNat 32 (4096 * x)) ↔ w.toNat = 4096 * x + k := by
  show BitVec.ofNat 32 k = w - BitVec.ofNat 32 (4096 * x) ↔ _
  rw [← BitVec.toNat_inj, BitVec.toNat_sub, BitVec.toNat_ofNat, BitVec.toNat_ofNat]
  omega

set_option maxRecDepth 16384 in
/-- Row `r`, column `j` of the product, over the reals: a sum of one-hot words times the rows of the device's half. -/
theorem product_apply (c : Dev nD) (v : Vec Ideal S256 .i32) (T : Vec Ideal S4096x512 .bf16) (r : Fin 256) (j : Fin 512) :
    k0_pay3 (k0_pay1 c v) (k0_pay2 T) (constant S256x512 .f32 0x00000000#32) (ix2 r j)
      = ∑ k : Fin 4096, (if BitVec.ofNat 32 k.val = IntOp.subi (v (ix1 r)) (BitVec.ofNat 32 (4096 * (c.val / 2))) then (1 : EReal) else 0) * T (ix2 k j) := by
  pointwise [k0_pay1, k0_pay2, k0_pay3]
  rw [half_word]
  exact Finset.sum_congr rfl fun k _ => by rw [bit_real]

/-- What the product finds for an in-range index `w`: the table's row, on the devices whose half holds it; zero on the others. -/
theorem product_row (c : Dev nD) (v : Vec Ideal S256 .i32) (T : Vec Ideal S4096x512 .bf16) (r : Fin 256) (j : Fin 512)
    (hw : (v (ix1 r)).toNat < 8192) :
    k0_pay3 (k0_pay1 c v) (k0_pay2 T) (constant S256x512 .f32 0x00000000#32) (ix2 r j)
      = if (v (ix1 r)).toNat / 4096 = c.val / 2 then T (ix2 (⟨(v (ix1 r)).toNat % 4096, Nat.mod_lt _ (by decide)⟩ : Fin 4096) j) else (0 : EReal) := by
  have hc : c.val / 2 < 2 := by have := c.isLt; simp only [nD] at this; omega
  rw [product_apply]
  by_cases h : (v (ix1 r)).toNat / 4096 = c.val / 2
  · rw [if_pos h, Finset.sum_eq_single (⟨(v (ix1 r)).toNat % 4096, Nat.mod_lt _ (by decide)⟩ : Fin 4096)]
    · rw [if_pos ((position_iff _ hw _ _ hc (Nat.mod_lt _ (by decide))).mpr (by omega)), one_mul]
    · intro k _ hk
      rw [if_neg fun h' => hk (Fin.ext (by have := (position_iff _ hw _ _ hc k.isLt).mp h'; show k.val = _ % 4096; omega)), zero_mul]
    · intro h'; exact absurd (Finset.mem_univ _) h'
  · rw [if_neg h]
    exact Finset.sum_eq_zero fun k _ => by
      rw [if_neg fun h' => h (by have := (position_iff _ hw _ _ hc k.isLt).mp h'; have := k.isLt; omega), zero_mul]

end Cert.KernelIdealRun

end
-- ==== Proof.RefRows.lean ====
/-
# What the reference computes: row `i` of the result is the table's row that the `i`-th index names
-/
module

public import proofs.«01_k».proof.Defs
public import proofs.«01_k».proof.Proof.Gen.ReferenceIdeal.Run
public import Idealize.ShloMosaic.Lib.Pointwise
public import Idealize.ShloMosaic.Lib.Routing.Ops
public import Idealize.ShloMosaic.Lib.Tactic.WordOmega

@[expose] public section

noncomputable section

namespace Cert.LookupRef

open Cert.ReferenceIdeal Cert.ReferenceIdeal.Gen Idealize.ShloMosaic

/-- An index word, signed, at least 0 and below 8192, is a natural number below 8192. -/
theorem word_range (w : BitVec 32) (h : IntOp.andi (IntOp.cmpi .sge w 0#32) (IntOp.cmpi .slt w 8192#32) = 1#1) : w.toNat < 8192 := by
  word_omega

/-- The index that the wrap of negative indices leaves of an in-range word: the word itself. -/
theorem wrap_word (w : BitVec 32) (hw : w.toNat < 8192) :
    Scalar.select (IntOp.cmpi .slt w 0#32) (IntOp.addi w 8192#32) w = w := by
  word_omega

set_option maxRecDepth 16384 in
/-- The precondition says of each index that it is a natural number below 8192. -/
theorem ids_range [Cert.Pre_ids_in_range_KernelIdeal.Facts] (ids : IVec S512 32) (T : FVec Ideal ⟨2, ![4096, 512]⟩ .bf16)
    (h : Cert.Pre_ids_in_range_KernelIdeal.fn (F := Ideal) ids T = fun _ => 1#1) (i : Fin 512) : (ids (ix1 i)).toNat < 8192 := by
  have h1 := congrFun h (ix1 i)
  pointwise [Cert.Pre_ids_in_range_KernelIdeal.fn] at h1
  exact word_range _ h1

/-- The reference's result, the composed term of its operations. -/
def refOut (ids : IVec S512 32) (E : FVec Ideal S8192x512 .bf16) : FVec Ideal S512x512 .bf16 :=
  truncf .bf16 (extf .f32 (Host.gather gather_S8192x512_S512x1_S512x512_1_0_n_n_0_1_1512 E (broadcastInDim S512x1 ![0] bcast_S512_S512x1_0
    (select (cmpi .slt ids (broadcastInDim S512 ![] bcast_S_S512 (constantI S_ 32 0#32)))
      (addi ids (broadcastInDim S512 ![] bcast_S_S512 (constantI S_ 32 8192#32))) ids))) bitsLt_bf16_f32) bitsLt_bf16_f32

set_option maxRecDepth 16384 in
theorem refOut_apply (ids : IVec S512 32) (E : FVec Ideal S8192x512 .bf16) (i j : Fin 512) (hw : (ids (ix1 i)).toNat < 8192) :
    refOut ids E (ix2 i j) = E (ix2 (⟨(ids (ix1 i)).toNat, hw⟩ : Fin 8192) j) := by
  show Host.gather gather_S8192x512_S512x1_S512x512_1_0_n_n_0_1_1512 E _ (ix2 i j) = _
  refine Routing.gather_row (nb := 8192) (B := 512) (n := 512) _ rfl rfl rfl rfl rfl E _ i j ⟨(ids (ix1 i)).toNat, hw⟩ ?_ (by norm_num)
  pointwise
  rw [wrap_word _ hw]
  exact BitVec.eq_of_toNat_eq (by rw [BitVec.toNat_ofNat]; omega)

end Cert.LookupRef

end
-- ==== Proof.IdealValue.lean ====
/-
# The kernel's result over the reals, against the reference's
-/
module

public import proofs.«01_k».proof.Proof.IdealFinal
public import proofs.«01_k».proof.Proof.IdealRows
public import proofs.«01_k».proof.Proof.RefRows

@[expose] public section

noncomputable section

namespace Cert.KernelIdealRun

open Cert.KernelIdeal Cert.KernelIdeal.Gen Idealize.ShloMosaic
open Idealize.ShloMosaic.TcCoe

variable (m : (ℓ : Loc nD τ sig) → Buf (Elt Ideal) ℓ) (ρ : Dev nD → PrngReg)

/-- The staged indices are the argument's. -/
theorem idsAt_apply (c : Dev nD) (i : Fin 512) : idsAt m ρ c (ix1 i) = m ((c.tc : Thread nD τ).loc main_arg0) (ix1 i) := by
  show m ((c.tc : Thread nD τ).loc main_arg0) ((win0_0.blk (0 : Fin 1)).view.emb (ix1 i)) = _
  refine congrArg (m ((c.tc : Thread nD τ).loc main_arg0)) (funext fun a => Fin.ext ?_)
  fin_cases a
  show 0 * 512 + 1 * i.val = i.val; omega

/-- The staged table shard is the argument's. -/
theorem tabAt_apply (c : Dev nD) (k : Fin 4096) (j : Fin 512) : tabAt m ρ c (ix2 k j) = m ((c.tc : Thread nD τ).loc main_arg1) (ix2 k j) := by
  show m ((c.tc : Thread nD τ).loc main_arg1) ((win0_1.blk (0 : Fin 1)).view.emb (ix2 k j)) = _
  refine congrArg (m ((c.tc : Thread nD τ).loc main_arg1)) (funext fun a => Fin.ext ?_)
  fin_cases a
  · show 0 * 4096 + 1 * k.val = k.val; omega
  · show 0 * 512 + 1 * j.val = j.val; omega

/-- The `r`-th of the indices device `c` looks up: index `256 y + r`, `y` its mesh column. -/
theorem idsPart_apply (c : Dev nD) (r : Fin 256) :
    idsPart m ρ c (ix1 r) = m ((c.tc : Thread nD τ).loc main_arg0) (ix1 (⟨256 * (c.val % 2) + r.val, by have := r.isLt; omega⟩ : Fin 512)) := by
  rw [← idsAt_apply m ρ]
  show idsAt m ρ c _ = _
  refine congrArg (idsAt m ρ c) (funext fun a => Fin.ext ?_)
  fin_cases a
  show k0_off1 c 0 + 1 * r.val = 256 * (c.val % 2) + r.val
  rw [k0_off1_eq]; show 256 * (c.val % 2) + 1 * r.val = _; omega

/-- The part of the whole table that device `c` holds. -/
abbrev part (E : (⟨2, ![8192, 512]⟩ : Shape).Idx → EReal) (c : Dev nD) : (⟨2, ![4096, 512]⟩ : Shape).Idx → EReal :=
  Layout.blockN ⟨2, ![4096, 512]⟩ ⟨2, ![8192, 512]⟩ (Layout.meshBlock [2, 2] ![[0], []] c) E

theorem mesh_row (c : Dev nD) : ((Layout.meshBlock [2, 2] ![[0], []] c : (b : Fin 2) → _) (0 : Fin 2)).val = c.val / 2 := by revert c; decide
theorem mesh_col (c : Dev nD) : ((Layout.meshBlock [2, 2] ![[0], []] c : (b : Fin 2) → _) (1 : Fin 2)).val = 0 := by revert c; decide

/-- Device `c`'s part of the table: the half that its mesh row holds. -/
theorem block_apply (E : (⟨2, ![8192, 512]⟩ : Shape).Idx → EReal) (c : Dev nD) (k : Fin 4096) (j : Fin 512) :
    part E c (ix2 k j) = E (ix2 (⟨4096 * (c.val / 2) + k.val, by have := c.isLt; have := k.isLt; simp only [nD] at *; omega⟩ : Fin 8192) j) := by
  unfold part
  rw [Layout.blockN_apply]
  refine congrArg E (funext fun a => Fin.ext ?_)
  rw [Layout.TilesN.idx_val]
  match a with
  | ⟨0, _⟩ =>
    refine (congrArg (fun n => n * 4096 + k.val) (mesh_row c)).trans ?_
    show c.val / 2 * 4096 + k.val = 4096 * (c.val / 2) + k.val; omega
  | ⟨1, _⟩ =>
    refine (congrArg (fun n => n * 512 + j.val) (mesh_col c)).trans ?_
    show 0 * 512 + j.val = j.val; omega

theorem rIx_eq (i j : Fin 512) : rIx i.val j = ix2 (⟨i.val % 256, Nat.mod_lt _ (by decide)⟩ : Fin 256) j := by
  funext a; fin_cases a <;> rfl

variable (ids : (⟨1, ![512]⟩ : Shape).Idx → BitVec 32) (E : (⟨2, ![8192, 512]⟩ : Shape).Idx → EReal)

/-- Row `i` of the rows of a device whose mesh column looks up index `i`: the table's row named by the index if the
    device's half holds it, zero if not. -/
theorem rows_apply (hids : ∀ c : Dev nD, m ((c.tc : Thread nD τ).loc main_arg0) = ids)
    (hE : ∀ c : Dev nD, m ((c.tc : Thread nD τ).loc main_arg1) = part E c)
    (c : Dev nD) (i j : Fin 512) (hc : c.val % 2 = i.val / 256) (hw : (ids (ix1 i)).toNat < 8192) :
    rowsOf m ρ c (rIx i.val j) = if (ids (ix1 i)).toNat / 4096 = c.val / 2 then E (ix2 (⟨(ids (ix1 i)).toNat, hw⟩ : Fin 8192) j) else (0 : EReal) := by
  have hi : idsPart m ρ c (ix1 (⟨i.val % 256, Nat.mod_lt _ (by decide)⟩ : Fin 256)) = ids (ix1 i) := by
    rw [idsPart_apply, hids]
    exact congrArg (fun n : Fin 512 => ids (ix1 n)) (Fin.ext (by show 256 * (c.val % 2) + i.val % 256 = i.val; omega))
  rw [rIx_eq]
  unfold rowsOf
  rw [product_row c _ _ _ j (by rw [hi]; exact hw), hi]
  split
  · rename_i h
    rw [tabAt_apply, hE, block_apply]
    exact congrArg (fun n : Fin 8192 => E (ix2 n j)) (Fin.ext (by show 4096 * (c.val / 2) + (ids (ix1 i)).toNat % 4096 = (ids (ix1 i)).toNat; omega))
  · rfl

theorem own_val (c : Dev nD) (y : ℕ) : (own c y).val = 2 * (c.val / 2) + y % 2 := rfl
theorem xp_row (c : Dev nD) : (xp c).val / 2 = 1 - c.val / 2 := by revert c; decide

/-- On every device the result is the reference's: in each row one device of the mesh column finds the table's row and the other zero. -/
theorem out_eq (hids : ∀ c : Dev nD, m ((c.tc : Thread nD τ).loc main_arg0) = ids)
    (hE : ∀ c : Dev nD, m ((c.tc : Thread nD τ).loc main_arg1) = part E c)
    (hw : ∀ i : Fin 512, (ids (ix1 i)).toNat < 8192) (c : Dev nD) : outOf m ρ c = LookupRef.refOut ids E := by
  funext y
  obtain ⟨i, j, rfl⟩ : ∃ (i j : Fin 512), y = ix2 i j := ⟨y 0, y 1, eq_ix2 y⟩
  rw [LookupRef.refOut_apply ids E i j (hw i)]
  have hc : c.val < 4 := c.isLt
  have h1 : (own c (i.val / 256)).val % 2 = i.val / 256 := by rw [own_val]; have := i.isLt; omega
  have h2 : (own c (i.val / 256)).val / 2 = c.val / 2 := by rw [own_val]; omega
  show (rowsOf m ρ (own c (i.val / 256)) (rIx i.val j) : EReal) + rowsOf m ρ (xp (own c (i.val / 256))) (rIx i.val j) = _
  rw [rows_apply m ρ ids E hids hE _ i j h1 (hw i), rows_apply m ρ ids E hids hE _ i j ((xp_col _).trans h1) (hw i), xp_row, h2]
  have := hw i
  by_cases h : (ids (ix1 i)).toNat / 4096 = c.val / 2
  · rw [if_pos h, if_neg (by omega), add_zero]
  · rw [if_neg h, if_pos (by omega), zero_add]

end Cert.KernelIdealRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFinal
public import proofs.«01_k».proof.Proof.IdealValue
public import Idealize.ShloMosaic.Adequacy
public import Idealize.ShloMosaic.Init

@[expose] public section

noncomputable section

namespace Cert.Proof

open Idealize.ShloMosaic Idealize.SL.Sem Cert.Kernel

theorem pre_facts_kernel : Cert.Pre_ids_in_range_KernelIdeal.Facts := ⟨by decide⟩
theorem pre_facts_reference : Cert.Pre_ids_in_range_ReferenceIdeal.Facts := ⟨by decide⟩

/-- The kernel's frame: it runs, its arguments end unchanged and every semaphore counter at zero. -/
theorem frame_kernel : quiescent_Kernel (hKernel := Cert.Kernel.Gen.facts) := fun m g _ =>
  (θ_run _ _ _).mono (fun _ h => ⟨fun c => (h.1 c).2, h.2⟩) (Cert.KernelRun.run_values m g)

/-- The same of the kernel read over the extended reals, from any memory. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => (h.1 c).2, h.2⟩) (Cert.KernelIdealRun.run_values m g)

/-- The reference's frame, from any memory: host operations alone, which touch no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m g)

/-- The kernel over the extended reals computes the reference's function: on every device the result is the reference's,
    for indices in range. -/
theorem value : algebraic_KernelIdeal_ReferenceIdeal_pre_ids_in_range_KernelIdeal (hKernelIdeal := Cert.KernelIdeal.Gen.facts)
    (hReferenceIdeal := Cert.ReferenceIdeal.Gen.facts) (hPre_ids_in_range_KernelIdeal := pre_facts_kernel) := by
  intro m g m' g' hpre hargs
  haveI := pre_facts_kernel
  have hw : ∀ i : Fin 512, (m' (((0 : Dev Cert.ReferenceIdeal.nD).tc : Thread Cert.ReferenceIdeal.nD Cert.ReferenceIdeal.τ).loc Cert.ReferenceIdeal.main_arg0) (ix1 i) : BitVec 32).toNat < 8192 := fun i => by
    have h := LookupRef.ids_range _ _ (hpre (0 : Dev Cert.KernelIdeal.nD)) i
    rw [(hargs (0 : Dev Cert.KernelIdeal.nD)).1] at h
    exact h
  refine ⟨_, (θ_run _ _ _).mono (fun _ h c => ⟨(h.1 c).1.trans
      (Cert.KernelIdealRun.out_eq m g _ _ (fun c => (hargs c).1) (fun c => (hargs c).2) hw c), (h.1 c).2⟩) (Cert.KernelIdealRun.run_values m g),
    (θ_run _ _ _).mono (fun _ h => h 0) (Cert.ReferenceIdeal.Value.run m' g')⟩

theorem claim : Cert.Claim :=
  ⟨Cert.Kernel.Gen.facts, Cert.KernelIdeal.Gen.facts, Cert.ReferenceIdeal.Gen.facts, pre_facts_kernel, pre_facts_reference,
    frame_kernel, fun m g _ => frame_ideal m g, fun m g _ => frame_ideal m g, fun m g _ => frame_reference m g, fun m g _ => frame_reference m g, trivial, value⟩

end Cert.Proof

end
